-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13)
      ∧ r.2.mem ((c.tc : Thread Cert.Prep.nD Cert.Prep.τ).loc Cert.Prep.main_arg14) = m ((c.tc : Thread Cert.Prep.nD Cert.Prep.τ).loc Cert.Prep.main_arg14))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7)
      ∧ r.2.mem ((c.tc : Thread Cert.PrepReferenceIdeal.nD Cert.PrepReferenceIdeal.τ).loc Cert.PrepReferenceIdeal.main_arg8) = m ((c.tc : Thread Cert.PrepReferenceIdeal.nD Cert.PrepReferenceIdeal.τ).loc Cert.PrepReferenceIdeal.main_arg8)
      ∧ r.2.mem ((c.tc : Thread Cert.PrepReferenceIdeal.nD Cert.PrepReferenceIdeal.τ).loc Cert.PrepReferenceIdeal.main_arg9) = m ((c.tc : Thread Cert.PrepReferenceIdeal.nD Cert.PrepReferenceIdeal.τ).loc Cert.PrepReferenceIdeal.main_arg9)
      ∧ r.2.mem ((c.tc : Thread Cert.PrepReferenceIdeal.nD Cert.PrepReferenceIdeal.τ).loc Cert.PrepReferenceIdeal.main_arg10) = m ((c.tc : Thread Cert.PrepReferenceIdeal.nD Cert.PrepReferenceIdeal.τ).loc Cert.PrepReferenceIdeal.main_arg10)
      ∧ r.2.mem ((c.tc : Thread Cert.PrepReferenceIdeal.nD Cert.PrepReferenceIdeal.τ).loc Cert.PrepReferenceIdeal.main_arg11) = m ((c.tc : Thread Cert.PrepReferenceIdeal.nD Cert.PrepReferenceIdeal.τ).loc Cert.PrepReferenceIdeal.main_arg11)
      ∧ r.2.mem ((c.tc : Thread Cert.PrepReferenceIdeal.nD Cert.PrepReferenceIdeal.τ).loc Cert.PrepReferenceIdeal.main_arg12) = m ((c.tc : Thread Cert.PrepReferenceIdeal.nD Cert.PrepReferenceIdeal.τ).loc Cert.PrepReferenceIdeal.main_arg12)
      ∧ r.2.mem ((c.tc : Thread Cert.PrepReferenceIdeal.nD Cert.PrepReferenceIdeal.τ).loc Cert.PrepReferenceIdeal.main_arg13) = m ((c.tc : Thread Cert.PrepReferenceIdeal.nD Cert.PrepReferenceIdeal.τ).loc Cert.PrepReferenceIdeal.main_arg13)
      ∧ r.2.mem ((c.tc : Thread Cert.PrepReferenceIdeal.nD Cert.PrepReferenceIdeal.τ).loc Cert.PrepReferenceIdeal.main_arg14) = m ((c.tc : Thread Cert.PrepReferenceIdeal.nD Cert.PrepReferenceIdeal.τ).loc Cert.PrepReferenceIdeal.main_arg14))
      ∧ r.2.sem = fun _ => 0)

def preserves_Kernel_KernelIdeal : Prop :=
  IdealRules.named_const.Statement Cert.KernelIdeal.κ "mask" .f32 0xF149F2CA#32 ⊥
  ∧ IdealRules.bf16_pack.Statement Cert.KernelIdeal.S3x8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47_0) = v0 c
          ∧ r.2.mem ((c.tc : Thread Cert.ReferenceIdeal.nD Cert.ReferenceIdeal.τ).loc Cert.ReferenceIdeal.main_v47_1) = v1 c
          ∧ r.2.mem ((c.tc : Thread Cert.ReferenceIdeal.nD Cert.ReferenceIdeal.τ).loc Cert.ReferenceIdeal.main_v47_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Prep_PrepIdeal : Prop :=
  IdealRules.bf16_pack.Statement Cert.PrepIdeal.S128x1024

def algebraic_PrepIdeal_PrepReferenceIdeal [hPrepIdeal : Cert.PrepIdeal.Facts] [hPrepReferenceIdeal : Cert.PrepReferenceIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)
      ∧ m' ((c.tc : Thread Cert.PrepReferenceIdeal.nD Cert.PrepReferenceIdeal.τ).loc Cert.PrepReferenceIdeal.main_arg7) = m ((c.tc : Thread Cert.PrepIdeal.nD Cert.PrepIdeal.τ).loc Cert.PrepIdeal.main_arg7)
      ∧ m' ((c.tc : Thread Cert.PrepReferenceIdeal.nD Cert.PrepReferenceIdeal.τ).loc Cert.PrepReferenceIdeal.main_arg8) = m ((c.tc : Thread Cert.PrepIdeal.nD Cert.PrepIdeal.τ).loc Cert.PrepIdeal.main_arg8)
      ∧ m' ((c.tc : Thread Cert.PrepReferenceIdeal.nD Cert.PrepReferenceIdeal.τ).loc Cert.PrepReferenceIdeal.main_arg9) = m ((c.tc : Thread Cert.PrepIdeal.nD Cert.PrepIdeal.τ).loc Cert.PrepIdeal.main_arg9)
      ∧ m' ((c.tc : Thread Cert.PrepReferenceIdeal.nD Cert.PrepReferenceIdeal.τ).loc Cert.PrepReferenceIdeal.main_arg10) = m ((c.tc : Thread Cert.PrepIdeal.nD Cert.PrepIdeal.τ).loc Cert.PrepIdeal.main_arg10)
      ∧ m' ((c.tc : Thread Cert.PrepReferenceIdeal.nD Cert.PrepReferenceIdeal.τ).loc Cert.PrepReferenceIdeal.main_arg11) = m ((c.tc : Thread Cert.PrepIdeal.nD Cert.PrepIdeal.τ).loc Cert.PrepIdeal.main_arg11)
      ∧ m' ((c.tc : Thread Cert.PrepReferenceIdeal.nD Cert.PrepReferenceIdeal.τ).loc Cert.PrepReferenceIdeal.main_arg12) = m ((c.tc : Thread Cert.PrepIdeal.nD Cert.PrepIdeal.τ).loc Cert.PrepIdeal.main_arg12)
      ∧ m' ((c.tc : Thread Cert.PrepReferenceIdeal.nD Cert.PrepReferenceIdeal.τ).loc Cert.PrepReferenceIdeal.main_arg13) = m ((c.tc : Thread Cert.PrepIdeal.nD Cert.PrepIdeal.τ).loc Cert.PrepIdeal.main_arg13)
      ∧ m' ((c.tc : Thread Cert.PrepReferenceIdeal.nD Cert.PrepReferenceIdeal.τ).loc Cert.PrepReferenceIdeal.main_arg14) = m ((c.tc : Thread Cert.PrepIdeal.nD Cert.PrepIdeal.τ).loc Cert.PrepIdeal.main_arg14)) →
    ∃ (v0 : (c : Dev Cert.PrepIdeal.nD) → Buf (Elt Ideal) ((c.tc : Thread Cert.PrepIdeal.nD Cert.PrepIdeal.τ).loc Cert.PrepIdeal.main_v9_0)) (v1 : (c : Dev Cert.PrepIdeal.nD) → Buf (Elt Ideal) ((c.tc : Thread Cert.PrepIdeal.nD Cert.PrepIdeal.τ).loc Cert.PrepIdeal.main_v9_1)) (v2 : (c : Dev Cert.PrepIdeal.nD) → Buf (Elt Ideal) ((c.tc : Thread Cert.PrepIdeal.nD Cert.PrepIdeal.τ).loc Cert.PrepIdeal.main_v9_2)) (v3 : (c : Dev Cert.PrepIdeal.nD) → Buf (Elt Ideal) ((c.tc : Thread Cert.PrepIdeal.nD Cert.PrepIdeal.τ).loc Cert.PrepIdeal.main_v9_3)) (v4 : (c : Dev Cert.PrepIdeal.nD) → Buf (Elt Ideal) ((c.tc : Thread Cert.PrepIdeal.nD Cert.PrepIdeal.τ).loc Cert.PrepIdeal.main_v9_4)) (v5 : (c : Dev Cert.PrepIdeal.nD) → Buf (Elt Ideal) ((c.tc : Thread Cert.PrepIdeal.nD Cert.PrepIdeal.τ).loc Cert.PrepIdeal.main_v9_5)) (v6 : (c : Dev Cert.PrepIdeal.nD) → Buf (Elt Ideal) ((c.tc : Thread Cert.PrepIdeal.nD Cert.PrepIdeal.τ).loc Cert.PrepIdeal.main_v9_6)) (v7 : (c : Dev Cert.PrepIdeal.nD) → Buf (Elt Ideal) ((c.tc : Thread Cert.PrepIdeal.nD Cert.PrepIdeal.τ).loc Cert.PrepIdeal.main_v9_7)) (v8 : (c : Dev Cert.PrepIdeal.nD) → Buf (Elt Ideal) ((c.tc : Thread Cert.PrepIdeal.nD Cert.PrepIdeal.τ).loc Cert.PrepIdeal.main_v9_8)) (v9 : (c : Dev Cert.PrepIdeal.nD) → Buf (Elt Ideal) ((c.tc : Thread Cert.PrepIdeal.nD Cert.PrepIdeal.τ).loc Cert.PrepIdeal.main_v9_9)) (v10 : (c : Dev Cert.PrepIdeal.nD) → Buf (Elt Ideal) ((c.tc : Thread Cert.PrepIdeal.nD Cert.PrepIdeal.τ).loc Cert.PrepIdeal.main_v9_10)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v9_0) = v0 c
          ∧ r.2.mem ((c.tc : Thread Cert.PrepIdeal.nD Cert.PrepIdeal.τ).loc Cert.PrepIdeal.main_v9_1) = v1 c
          ∧ r.2.mem ((c.tc : Thread Cert.PrepIdeal.nD Cert.PrepIdeal.τ).loc Cert.PrepIdeal.main_v9_2) = v2 c
          ∧ r.2.mem ((c.tc : Thread Cert.PrepIdeal.nD Cert.PrepIdeal.τ).loc Cert.PrepIdeal.main_v9_3) = v3 c
          ∧ r.2.mem ((c.tc : Thread Cert.PrepIdeal.nD Cert.PrepIdeal.τ).loc Cert.PrepIdeal.main_v9_4) = v4 c
          ∧ r.2.mem ((c.tc : Thread Cert.PrepIdeal.nD Cert.PrepIdeal.τ).loc Cert.PrepIdeal.main_v9_5) = v5 c
          ∧ r.2.mem ((c.tc : Thread Cert.PrepIdeal.nD Cert.PrepIdeal.τ).loc Cert.PrepIdeal.main_v9_6) = v6 c
          ∧ r.2.mem ((c.tc : Thread Cert.PrepIdeal.nD Cert.PrepIdeal.τ).loc Cert.PrepIdeal.main_v9_7) = v7 c
          ∧ r.2.mem ((c.tc : Thread Cert.PrepIdeal.nD Cert.PrepIdeal.τ).loc Cert.PrepIdeal.main_v9_8) = v8 c
          ∧ r.2.mem ((c.tc : Thread Cert.PrepIdeal.nD Cert.PrepIdeal.τ).loc Cert.PrepIdeal.main_v9_9) = v9 c
          ∧ r.2.mem ((c.tc : Thread Cert.PrepIdeal.nD Cert.PrepIdeal.τ).loc Cert.PrepIdeal.main_v9_10) = v10 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
          ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v9_0) = v0 c
          ∧ r.2.mem ((c.tc : Thread Cert.PrepReferenceIdeal.nD Cert.PrepReferenceIdeal.τ).loc Cert.PrepReferenceIdeal.main_v9_1) = v1 c
          ∧ r.2.mem ((c.tc : Thread Cert.PrepReferenceIdeal.nD Cert.PrepReferenceIdeal.τ).loc Cert.PrepReferenceIdeal.main_v9_2) = v2 c
          ∧ r.2.mem ((c.tc : Thread Cert.PrepReferenceIdeal.nD Cert.PrepReferenceIdeal.τ).loc Cert.PrepReferenceIdeal.main_v9_3) = v3 c
          ∧ r.2.mem ((c.tc : Thread Cert.PrepReferenceIdeal.nD Cert.PrepReferenceIdeal.τ).loc Cert.PrepReferenceIdeal.main_v9_4) = v4 c
          ∧ r.2.mem ((c.tc : Thread Cert.PrepReferenceIdeal.nD Cert.PrepReferenceIdeal.τ).loc Cert.PrepReferenceIdeal.main_v9_5) = v5 c
          ∧ r.2.mem ((c.tc : Thread Cert.PrepReferenceIdeal.nD Cert.PrepReferenceIdeal.τ).loc Cert.PrepReferenceIdeal.main_v9_6) = v6 c
          ∧ r.2.mem ((c.tc : Thread Cert.PrepReferenceIdeal.nD Cert.PrepReferenceIdeal.τ).loc Cert.PrepReferenceIdeal.main_v9_7) = v7 c
          ∧ r.2.mem ((c.tc : Thread Cert.PrepReferenceIdeal.nD Cert.PrepReferenceIdeal.τ).loc Cert.PrepReferenceIdeal.main_v9_8) = v8 c
          ∧ r.2.mem ((c.tc : Thread Cert.PrepReferenceIdeal.nD Cert.PrepReferenceIdeal.τ).loc Cert.PrepReferenceIdeal.main_v9_9) = v9 c
          ∧ r.2.mem ((c.tc : Thread Cert.PrepReferenceIdeal.nD Cert.PrepReferenceIdeal.τ).loc Cert.PrepReferenceIdeal.main_v9_10) = v10 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7)
          ∧ r.2.mem ((c.tc : Thread Cert.PrepReferenceIdeal.nD Cert.PrepReferenceIdeal.τ).loc Cert.PrepReferenceIdeal.main_arg8) = m' ((c.tc : Thread Cert.PrepReferenceIdeal.nD Cert.PrepReferenceIdeal.τ).loc Cert.PrepReferenceIdeal.main_arg8)
          ∧ r.2.mem ((c.tc : Thread Cert.PrepReferenceIdeal.nD Cert.PrepReferenceIdeal.τ).loc Cert.PrepReferenceIdeal.main_arg9) = m' ((c.tc : Thread Cert.PrepReferenceIdeal.nD Cert.PrepReferenceIdeal.τ).loc Cert.PrepReferenceIdeal.main_arg9)
          ∧ r.2.mem ((c.tc : Thread Cert.PrepReferenceIdeal.nD Cert.PrepReferenceIdeal.τ).loc Cert.PrepReferenceIdeal.main_arg10) = m' ((c.tc : Thread Cert.PrepReferenceIdeal.nD Cert.PrepReferenceIdeal.τ).loc Cert.PrepReferenceIdeal.main_arg10)
          ∧ r.2.mem ((c.tc : Thread Cert.PrepReferenceIdeal.nD Cert.PrepReferenceIdeal.τ).loc Cert.PrepReferenceIdeal.main_arg11) = m' ((c.tc : Thread Cert.PrepReferenceIdeal.nD Cert.PrepReferenceIdeal.τ).loc Cert.PrepReferenceIdeal.main_arg11)
          ∧ r.2.mem ((c.tc : Thread Cert.PrepReferenceIdeal.nD Cert.PrepReferenceIdeal.τ).loc Cert.PrepReferenceIdeal.main_arg12) = m' ((c.tc : Thread Cert.PrepReferenceIdeal.nD Cert.PrepReferenceIdeal.τ).loc Cert.PrepReferenceIdeal.main_arg12)
          ∧ r.2.mem ((c.tc : Thread Cert.PrepReferenceIdeal.nD Cert.PrepReferenceIdeal.τ).loc Cert.PrepReferenceIdeal.main_arg13) = m' ((c.tc : Thread Cert.PrepReferenceIdeal.nD Cert.PrepReferenceIdeal.τ).loc Cert.PrepReferenceIdeal.main_arg13)
          ∧ r.2.mem ((c.tc : Thread Cert.PrepReferenceIdeal.nD Cert.PrepReferenceIdeal.τ).loc Cert.PrepReferenceIdeal.main_arg14) = m' ((c.tc : Thread Cert.PrepReferenceIdeal.nD Cert.PrepReferenceIdeal.τ).loc Cert.PrepReferenceIdeal.main_arg14))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Prep (hPrep := hPrep)
    ∧ quiescent_PrepIdeal (hPrepIdeal := hPrepIdeal)
    ∧ quiescent_PrepReferenceIdeal (hPrepReferenceIdeal := hPrepReferenceIdeal)
    ∧ preserves_Kernel_KernelIdeal
    ∧ algebraic_KernelIdeal_ReferenceIdeal (hKernelIdeal := hKernelIdeal) (hReferenceIdeal := hReferenceIdeal)
    ∧ preserves_Prep_PrepIdeal
    ∧ algebraic_PrepIdeal_PrepReferenceIdeal (hPrepIdeal := hPrepIdeal) (hPrepReferenceIdeal := hPrepReferenceIdeal)
-- ==== Kernel.lean ====
abbrev S160 : Shape := ⟨1, ![160]⟩
abbrev S2x3840x384 : Shape := ⟨3, ![2, 3840, 384]⟩
abbrev S160x128x144 : Shape := ⟨3, ![160, 128, 144]⟩
abbrev S768x1024 : Shape := ⟨2, ![768, 1024]⟩
abbrev S256x1024 : Shape := ⟨2, ![256, 1024]⟩
abbrev S256x256 : Shape := ⟨2, ![256, 256]⟩
abbrev S256x128 : Shape := ⟨2, ![256, 128]⟩
abbrev S160x1024x256 : Shape := ⟨3, ![160, 1024, 256]⟩
abbrev S160x1024x128 : Shape := ⟨3, ![160, 1024, 128]⟩
abbrev S160x1024 : Shape := ⟨2, ![160, 1024]⟩
abbrev S2x192x384 : Shape := ⟨3, ![2, 192, 384]⟩
abbrev S8x128x144 : Shape := ⟨3, ![8, 128, 144]⟩
abbrev S768x256 : Shape := ⟨2, ![768, 256]⟩
abbrev S8x256x256 : Shape := ⟨3, ![8, 256, 256]⟩
abbrev S8x256x128 : Shape := ⟨3, ![8, 256, 128]⟩
abbrev S8x256 : Shape := ⟨2, ![8, 256]⟩
abbrev S1x192x128 : Shape := ⟨3, ![1, 192, 128]⟩
abbrev S192x128 : Shape := ⟨2, ![192, 128]⟩
abbrev S192x768 : Shape := ⟨2, ![192, 768]⟩
abbrev S192x256 : Shape := ⟨2, ![192, 256]⟩
abbrev S24x256 : Shape := ⟨2, ![24, 256]⟩
abbrev S1 : Shape := ⟨1, ![1]⟩
abbrev S3x8x256 : Shape := ⟨3, ![3, 8, 256]⟩
abbrev S1x8x256 : Shape := ⟨3, ![1, 8, 256]⟩
abbrev S3x16x256 : Shape := ⟨3, ![3, 16, 256]⟩
abbrev S48x256 : Shape := ⟨2, ![48, 256]⟩
abbrev S144x256 : Shape := ⟨2, ![144, 256]⟩
abbrev S1x64x144 : Shape := ⟨3, ![1, 64, 144]⟩
abbrev S64x144 : Shape := ⟨2, ![64, 144]⟩
abbrev S64x256 : Shape := ⟨2, ![64, 256]⟩
abbrev S128x256 : Shape := ⟨2, ![128, 256]⟩
abbrev S256 : Shape := ⟨1, ![256]⟩
abbrev S1x256 : Shape := ⟨2, ![1, 256]⟩
abbrev S1x256x128 : Shape := ⟨3, ![1, 256, 128]⟩
abbrev S1x256x256 : Shape := ⟨3, ![1, 256, 256]⟩

abbrev nBuf : Space → Nat
  | .hbm => 10
  | .vmem => 17
  | .smem => 1
  | _ => 0

abbrev bufTy : (tb : Table) → Fin (tcTables nBuf tb) → BufTy
  | .hbm, ⟨0, _⟩ => ⟨S2x3840x384, .bf16⟩
  | .hbm, ⟨1, _⟩ => ⟨S160x128x144, .bf16⟩
  | .hbm, ⟨2, _⟩ => ⟨S768x1024, .bf16⟩
  | .hbm, ⟨3, _⟩ => ⟨S256x1024, .f32⟩
  | .hbm, ⟨4, _⟩ => ⟨S256x256, .bf16⟩
  | .hbm, ⟨5, _⟩ => ⟨S256x128, .f32⟩
  | .hbm, ⟨6, _⟩ => ⟨S256x128, .f32⟩
  | .hbm, ⟨7, _⟩ => ⟨S160x1024x256, .bf16⟩
  | .hbm, ⟨8, _⟩ => ⟨S160x1024x128, .fp8e4m3⟩
  | .hbm, ⟨9, _⟩ => ⟨S160x1024, .f32⟩
  | .local _ .vmem, ⟨0, _⟩ => ⟨S2x192x384, .bf16⟩
  | .local _ .vmem, ⟨1, _⟩ => ⟨S2x192x384, .bf16⟩
  | .local _ .vmem, ⟨2, _⟩ => ⟨S8x128x144, .bf16⟩
  | .local _ .vmem, ⟨3, _⟩ => ⟨S8x128x144, .bf16⟩
  | .local _ .vmem, ⟨4, _⟩ => ⟨S768x256, .bf16⟩
  | .local _ .vmem, ⟨5, _⟩ => ⟨S768x256, .bf16⟩
  | .local _ .vmem, ⟨6, _⟩ => ⟨S256x256, .f32⟩
  | .local _ .vmem, ⟨7, _⟩ => ⟨S256x256, .f32⟩
  | .local _ .vmem, ⟨8, _⟩ => ⟨S256x256, .bf16⟩
  | .local _ .vmem, ⟨9, _⟩ => ⟨S256x128, .f32⟩
  | .local _ .vmem, ⟨10, _⟩ => ⟨S256x128, .f32⟩
  | .local _ .vmem, ⟨11, _⟩ => ⟨S8x256x256, .bf16⟩
  | .local _ .vmem, ⟨12, _⟩ => ⟨S8x256x256, .bf16⟩
  | .local _ .vmem, ⟨13, _⟩ => ⟨S8x256x128, .fp8e4m3⟩
  | .local _ .vmem, ⟨14, _⟩ => ⟨S8x256x128, .fp8e4m3⟩
  | .local _ .vmem, ⟨15, _⟩ => ⟨S8x256, .f32⟩
  | .local _ .vmem, ⟨16, _⟩ => ⟨S8x256, .f32⟩
  | .local _ .smem, ⟨0, _⟩ => ⟨S160, .i32⟩
  | _, _ => ⟨S2x3840x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [BitOps F]

abbrev grid0 : Pipeline.Grid := ⟨2, ![20, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_21 : BitVec 32) : Fin 1 → Nat :=
  let arg0 : BitVec 32 := BitVec.ofNat 32 (i 0).val
  let c8_i32 : BitVec 32 := 8#32
  let v42 : BitVec 32 := Scalar.muli arg0 c8_i32
  let v43 : BitVec 32 := Scalar.addi v42 c0_i32_21
  let v44 : Index := Scalar.indexCast v43
  ![v44.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2x192x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S160 : Shape := ⟨1, ![160]⟩
abbrev S2x3840x384 : Shape := ⟨3, ![2, 3840, 384]⟩
abbrev S160x128x144 : Shape := ⟨3, ![160, 128, 144]⟩
abbrev S768x1024 : Shape := ⟨2, ![768, 1024]⟩
abbrev S256x1024 : Shape := ⟨2, ![256, 1024]⟩
abbrev S256x256 : Shape := ⟨2, ![256, 256]⟩
abbrev S256x128 : Shape := ⟨2, ![256, 128]⟩
abbrev S2x3840x128 : Shape := ⟨3, ![2, 3840, 128]⟩
abbrev S2x3840x768 : Shape := ⟨3, ![2, 3840, 768]⟩
abbrev S2x3840x1024 : Shape := ⟨3, ![2, 3840, 1024]⟩
abbrev S2x160x6x4x1024 : Shape := ⟨5, ![2, 160, 6, 4, 1024]⟩
abbrev S6 : Shape := ⟨1, ![6]⟩
abbrev S1x6 : Shape := ⟨2, ![1, 6]⟩
abbrev S160x1 : Shape := ⟨2, ![160, 1]⟩
abbrev S160x6 : Shape := ⟨2, ![160, 6]⟩
abbrev S1x160x6x1x1 : Shape := ⟨5, ![1, 160, 6, 1, 1]⟩
abbrev S_ : Shape := ⟨0, ![]⟩
abbrev S2x160x4x1024 : Shape := ⟨4, ![2, 160, 4, 1024]⟩
abbrev S2x160x1x4x1024 : Shape := ⟨5, ![2, 160, 1, 4, 1024]⟩
abbrev S160x2x64x3x3x2x8 : Shape := ⟨7, ![160, 2, 64, 3, 3, 2, 8]⟩
abbrev S160x2x64x3x3x1x8 : Shape := ⟨7, ![160, 2, 64, 3, 3, 1, 8]⟩
abbrev S160x2x64x3x3x8 : Shape := ⟨6, ![160, 2, 64, 3, 3, 8]⟩
abbrev S160x2x64x1x3x8 : Shape := ⟨6, ![160, 2, 64, 1, 3, 8]⟩
abbrev S160x2x64x3x8 : Shape := ⟨5, ![160, 2, 64, 3, 8]⟩
abbrev S160x2x64x24 : Shape := ⟨4, ![160, 2, 64, 24]⟩
abbrev S2x160x24x1024 : Shape := ⟨4, ![2, 160, 24, 1024]⟩
abbrev S160x2x64x1024 : Shape := ⟨4, ![160, 2, 64, 1024]⟩
abbrev S160x1024x2x64 : Shape := ⟨4, ![160, 1024, 2, 64]⟩
abbrev S160x1024x128 : Shape := ⟨3, ![160, 1024, 128]⟩
abbrev S160x1024x256 : Shape := ⟨3, ![160, 1024, 256]⟩
abbrev S160x1024 : Shape := ⟨2, ![160, 1024]⟩
abbrev S160x1024x1 : Shape := ⟨3, ![160, 1024, 1]⟩
abbrev S1x1x246 : Shape := ⟨3, ![1, 1, 246]⟩
abbrev S160x1024x246 : Shape := ⟨3, ![160, 1024, 246]⟩
abbrev S163840x128 : Shape := ⟨2, ![163840, 128]⟩
abbrev S128x256 : Shape := ⟨2, ![128, 256]⟩
abbrev S163840x256 : Shape := ⟨2, ![163840, 256]⟩
abbrev S1024x256 : Shape := ⟨2, ![1024, 256]⟩
abbrev S1x1024x256 : Shape := ⟨3, ![1, 1024, 256]⟩

abbrev nBuf : Space → Nat
  | .hbm => 63
  | .vmem => 8
  | .smem => 0
  | _ => 0

abbrev bufTy : (tb : Table) → Fin (tcTables nBuf tb) → BufTy
  | .hbm, ⟨0, _⟩ => ⟨S160, .i32⟩
  | .hbm, ⟨1, _⟩ => ⟨S2x3840x384, .bf16⟩
  | .hbm, ⟨2, _⟩ => ⟨S160x128x144, .bf16⟩
  | .hbm, ⟨3, _⟩ => ⟨S768x1024, .bf16⟩
  | .hbm, ⟨4, _⟩ => ⟨S256x1024, .f32⟩
  | .hbm, ⟨5, _⟩ => ⟨S256x256, .bf16⟩
  | .hbm, ⟨6, _⟩ => ⟨S256x128, .f32⟩
  | .hbm, ⟨7, _⟩ => ⟨S256x128, .f32⟩
  | .hbm, ⟨8, _⟩ => ⟨S2x3840x128, .bf16⟩
  | .hbm, ⟨9, _⟩ => ⟨S2x3840x128, .bf16⟩
  | .hbm, ⟨10, _⟩ => ⟨S2x3840x128, .bf16⟩
  | .hbm, ⟨11, _⟩ => ⟨S2x3840x768, .bf16⟩
  | .hbm, ⟨12, _⟩ => ⟨S2x3840x768, .f32⟩
  | .hbm, ⟨13, _⟩ => ⟨S768x1024, .f32⟩
  | .hbm, ⟨14, _⟩ => ⟨S2x3840x1024, .f32⟩
  | .hbm, ⟨15, _⟩ => ⟨S2x160x6x4x1024, .f32⟩
  | .hbm, ⟨16, _⟩ => ⟨S6, .i32⟩
  | .hbm, ⟨17, _⟩ => ⟨S1x6, .i32⟩
  | .hbm, ⟨18, _⟩ => ⟨S160x1, .i32⟩
  | .hbm, ⟨19, _⟩ => ⟨S160x6, .i32⟩
  | .hbm, ⟨20, _⟩ => ⟨S160x6, .i32⟩
  | .hbm, ⟨21, _⟩ => ⟨S160x6, .i1⟩
  | .hbm, ⟨22, _⟩ => ⟨S1x160x6x1x1, .i1⟩
  | .hbm, ⟨23, _⟩ => ⟨S2x160x6x4x1024, .i1⟩
  | .hbm, ⟨24, _⟩ => ⟨S_, .f32⟩
  | .hbm, ⟨25, _⟩ => ⟨S2x160x6x4x1024, .f32⟩
  | .hbm, ⟨26, _⟩ => ⟨S2x160x6x4x1024, .f32⟩
  | .hbm, ⟨27, _⟩ => ⟨S_, .f32⟩
  | .hbm, ⟨28, _⟩ => ⟨S2x160x4x1024, .f32⟩
  | .hbm, ⟨29, _⟩ => ⟨S2x160x1x4x1024, .f32⟩
  | .hbm, ⟨30, _⟩ => ⟨S2x160x6x4x1024, .f32⟩
  | .hbm, ⟨31, _⟩ => ⟨S2x160x6x4x1024, .f32⟩
  | .hbm, ⟨32, _⟩ => ⟨S_, .f32⟩
  | .hbm, ⟨33, _⟩ => ⟨S2x160x6x4x1024, .f32⟩
  | .hbm, ⟨34, _⟩ => ⟨S2x160x6x4x1024, .f32⟩
  | .hbm, ⟨35, _⟩ => ⟨S_, .f32⟩
  | .hbm, ⟨36, _⟩ => ⟨S2x160x4x1024, .f32⟩
  | .hbm, ⟨37, _⟩ => ⟨S2x160x1x4x1024, .f32⟩
  | .hbm, ⟨38, _⟩ => ⟨S_, .f32⟩
  | .hbm, ⟨39, _⟩ => ⟨S2x160x1x4x1024, .f32⟩
  | .hbm, ⟨40, _⟩ => ⟨S2x160x1x4x1024, .f32⟩
  | .hbm, ⟨41, _⟩ => ⟨S2x160x6x4x1024, .f32⟩
  | .hbm, ⟨42, _⟩ => ⟨S2x160x6x4x1024, .f32⟩
  | .hbm, ⟨43, _⟩ => ⟨S160x128x144, .f32⟩
  | .hbm, ⟨44, _⟩ => ⟨S160x2x64x3x3x2x8, .f32⟩
  | .hbm, ⟨45, _⟩ => ⟨S160x2x64x3x3x1x8, .f32⟩
  | .hbm, ⟨46, _⟩ => ⟨S160x2x64x3x3x8, .f32⟩
  | .hbm, ⟨47, _⟩ => ⟨S160x2x64x1x3x8, .f32⟩
  | .hbm, ⟨48, _⟩ => ⟨S160x2x64x3x8, .f32⟩
  | .hbm, ⟨49, _⟩ => ⟨S160x2x64x1x3x8, .f32⟩
  | .hbm, ⟨50, _⟩ => ⟨S160x2x64x3x8, .f32⟩
  | .hbm, ⟨51, _⟩ => ⟨S160x2x64x3x8, .f32⟩
  | .hbm, ⟨52, _⟩ => ⟨S160x2x64x1x3x8, .f32⟩
  | .hbm, ⟨53, _⟩ => ⟨S160x2x64x3x8, .f32⟩
  | .hbm, ⟨54, _⟩ => ⟨S160x2x64x3x8, .f32⟩
  | .hbm, ⟨55, _⟩ => ⟨S160x2x64x24, .f32⟩
  | .hbm, ⟨56, _⟩ => ⟨S2x160x24x1024, .f32⟩
  | .hbm, ⟨57, _⟩ => ⟨S160x2x64x1024, .f32⟩
  | .hbm, ⟨58, _⟩ => ⟨S160x1024x2x64, .f32⟩
  | .hbm, ⟨59, _⟩ => ⟨S160x1024x128, .f32⟩
  | .hbm, ⟨60, _⟩ => ⟨S160x1024x256, .bf16⟩
  | .hbm, ⟨61, _⟩ => ⟨S160x1024x128, .fp8e4m3⟩
  | .hbm, ⟨62, _⟩ => ⟨S160x1024, .f32⟩
  | .local _ .vmem, ⟨0, _⟩ => ⟨S160x1024x128, .f32⟩
  | .local _ .vmem, ⟨1, _⟩ => ⟨S256x256, .bf16⟩
  | .local _ .vmem, ⟨2, _⟩ => ⟨S256x1024, .f32⟩
  | .local _ .vmem, ⟨3, _⟩ => ⟨S256x128, .f32⟩
  | .local _ .vmem, ⟨4, _⟩ => ⟨S256x128, .f32⟩
  | .local _ .vmem, ⟨5, _⟩ => ⟨S160x1024x256, .bf16⟩
  | .local _ .vmem, ⟨6, _⟩ => ⟨S160x1024x128, .fp8e4m3⟩
  | .local _ .vmem, ⟨7, _⟩ => ⟨S160x1024, .f32⟩
  | _, _ => ⟨S160, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev main_v47_2 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S160x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x1024x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Prep.lean ====
abbrev S1024x256 : Shape := ⟨2, ![1024, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S1x128 : Shape := ⟨2, ![1, 128]⟩
abbrev S1x256 : Shape := ⟨2, ![1, 256]⟩
abbrev S1x1024 : Shape := ⟨2, ![1, 1024]⟩
abbrev S128x1024 : Shape := ⟨2, ![128, 1024]⟩
abbrev S1024x128 : Shape := ⟨2, ![1024, 128]⟩
abbrev S768x1024 : Shape := ⟨2, ![768, 1024]⟩
abbrev S256x1024 : Shape := ⟨2, ![256, 1024]⟩
abbrev S256x256 : Shape := ⟨2, ![256, 256]⟩
abbrev S1024 : Shape := ⟨1, ![1024]⟩
abbrev S1024x1 : Shape := ⟨2, ![1024, 1]⟩
abbrev S128x1 : Shape := ⟨2, ![128, 1]⟩

abbrev nBuf : Space → Nat
  | .hbm => 35
  | .vmem => 26
  | .smem => 0
  | _ => 0

abbrev bufTy : (tb : Table) → Fin (tcTables nBuf tb) → BufTy
  | .hbm, ⟨0, _⟩ => ⟨S1024x256, .bf16⟩
  | .hbm, ⟨1, _⟩ => ⟨S1024x256, .bf16⟩
  | .hbm, ⟨2, _⟩ => ⟨S256x128, .fp8e4m3⟩
  | .hbm, ⟨3, _⟩ => ⟨S128, .f32⟩
  | .hbm, ⟨4, _⟩ => ⟨S256x128, .fp8e4m3⟩
  | .hbm, ⟨5, _⟩ => ⟨S128, .f32⟩
  | .hbm, ⟨6, _⟩ => ⟨S128, .f32⟩
  | .hbm, ⟨7, _⟩ => ⟨S256x128, .fp8e4m3⟩
  | .hbm, ⟨8, _⟩ => ⟨S128, .f32⟩
  | .hbm, ⟨9, _⟩ => ⟨S128, .f32⟩
  | .hbm, ⟨10, _⟩ => ⟨S128x256, .fp8e4m3⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1024x256, .fp8e4m3⟩
  | .hbm, ⟨25, _⟩ => ⟨S1x1024, .f32⟩
  | .hbm, ⟨26, _⟩ => ⟨S1024x256, .fp8e4m3⟩
  | .hbm, ⟨27, _⟩ => ⟨S1x1024, .f32⟩
  | .hbm, ⟨28, _⟩ => ⟨S128x1024, .f32⟩
  | .hbm, ⟨29, _⟩ => ⟨S1024x128, .f32⟩
  | .hbm, ⟨30, _⟩ => ⟨S768x1024, .bf16⟩
  | .hbm, ⟨31, _⟩ => ⟨S256x1024, .f32⟩
  | .hbm, ⟨32, _⟩ => ⟨S256x256, .bf16⟩
  | .hbm, ⟨33, _⟩ => ⟨S256x128, .f32⟩
  | .hbm, ⟨34, _⟩ => ⟨S256x128, .f32⟩
  | .local _ .vmem, ⟨0, _⟩ => ⟨S1024x256, .bf16⟩
  | .local _ .vmem, ⟨1, _⟩ => ⟨S1024x256, .bf16⟩
  | .local _ .vmem, ⟨2, _⟩ => ⟨S256x128, .fp8e4m3⟩
  | .local _ .vmem, ⟨3, _⟩ => ⟨S1x128, .f32⟩
  | .local _ .vmem, ⟨4, _⟩ => ⟨S256x128, .fp8e4m3⟩
  | .local _ .vmem, ⟨5, _⟩ => ⟨S1x128, .f32⟩
  | .local _ .vmem, ⟨6, _⟩ => ⟨S1x128, .f32⟩
  | .local _ .vmem, ⟨7, _⟩ => ⟨S256x128, .fp8e4m3⟩
  | .local _ .vmem, ⟨8, _⟩ => ⟨S1x128, .f32⟩
  | .local _ .vmem, ⟨9, _⟩ => ⟨S1x128, .f32⟩
  | .local _ .vmem, ⟨10, _⟩ => ⟨S128x256, .fp8e4m3⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1024x256, .fp8e4m3⟩
  | .local _ .vmem, ⟨16, _⟩ => ⟨S1x1024, .f32⟩
  | .local _ .vmem, ⟨17, _⟩ => ⟨S1024x256, .fp8e4m3⟩
  | .local _ .vmem, ⟨18, _⟩ => ⟨S1x1024, .f32⟩
  | .local _ .vmem, ⟨19, _⟩ => ⟨S128x1024, .f32⟩
  | .local _ .vmem, ⟨20, _⟩ => ⟨S1024x128, .f32⟩
  | .local _ .vmem, ⟨21, _⟩ => ⟨S768x1024, .bf16⟩
  | .local _ .vmem, ⟨22, _⟩ => ⟨S256x1024, .f32⟩
  | .local _ .vmem, ⟨23, _⟩ => ⟨S256x256, .bf16⟩
  | .local _ .vmem, ⟨24, _⟩ => ⟨S256x128, .f32⟩
  | .local _ .vmem, ⟨25, _⟩ => ⟨S256x128, .f32⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev main_v9_7 : Ref sig .tc := ⟨.hbm, 31, rfl⟩
abbrev main_v9_8 : Ref sig .tc := ⟨.hbm, 32, rfl⟩
abbrev main_v9_9 : Ref sig .tc := ⟨.hbm, 33, rfl⟩
abbrev main_v9_10 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [BitOps F]

abbrev grid0 : Pipeline.Grid := .none

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x256 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024x256 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S768x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S256x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
-- ==== PrepIdeal.lean ====
variable {F : FTy → Type} [FloatOps F]
-- ==== PrepReferenceIdeal.lean ====
abbrev S1024x256 : Shape := ⟨2, ![1024, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S1x128 : Shape := ⟨2, ![1, 128]⟩
abbrev S1x256 : Shape := ⟨2, ![1, 256]⟩
abbrev S1x1024 : Shape := ⟨2, ![1, 1024]⟩
abbrev S128x1024 : Shape := ⟨2, ![128, 1024]⟩
abbrev S1024x128 : Shape := ⟨2, ![1024, 128]⟩
abbrev S768x1024 : Shape := ⟨2, ![768, 1024]⟩
abbrev S256x1024 : Shape := ⟨2, ![256, 1024]⟩
abbrev S256x256 : Shape := ⟨2, ![256, 256]⟩
abbrev S1024 : Shape := ⟨1, ![1024]⟩
abbrev S1024x1 : Shape := ⟨2, ![1024, 1]⟩
abbrev S1x246 : Shape := ⟨2, ![1, 246]⟩
abbrev S1024x246 : Shape := ⟨2, ![1024, 246]⟩
abbrev S1024x768 : Shape := ⟨2, ![1024, 768]⟩
abbrev S128x1 : Shape := ⟨2, ![128, 1]⟩

abbrev nBuf : Space → Nat
  | .hbm => 35
  | .vmem => 26
  | .smem => 0
  | _ => 0

abbrev bufTy : (tb : Table) → Fin (tcTables nBuf tb) → BufTy
  | .hbm, ⟨0, _⟩ => ⟨S1024x256, .bf16⟩
  | .hbm, ⟨1, _⟩ => ⟨S1024x256, .bf16⟩
  | .hbm, ⟨2, _⟩ => ⟨S256x128, .fp8e4m3⟩
  | .hbm, ⟨3, _⟩ => ⟨S128, .f32⟩
  | .hbm, ⟨4, _⟩ => ⟨S256x128, .fp8e4m3⟩
  | .hbm, ⟨5, _⟩ => ⟨S128, .f32⟩
  | .hbm, ⟨6, _⟩ => ⟨S128, .f32⟩
  | .hbm, ⟨7, _⟩ => ⟨S256x128, .fp8e4m3⟩
  | .hbm, ⟨8, _⟩ => ⟨S128, .f32⟩
  | .hbm, ⟨9, _⟩ => ⟨S128, .f32⟩
  | .hbm, ⟨10, _⟩ => ⟨S128x256, .fp8e4m3⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1024x256, .fp8e4m3⟩
  | .hbm, ⟨25, _⟩ => ⟨S1x1024, .f32⟩
  | .hbm, ⟨26, _⟩ => ⟨S1024x256, .fp8e4m3⟩
  | .hbm, ⟨27, _⟩ => ⟨S1x1024, .f32⟩
  | .hbm, ⟨28, _⟩ => ⟨S128x1024, .f32⟩
  | .hbm, ⟨29, _⟩ => ⟨S1024x128, .f32⟩
  | .hbm, ⟨30, _⟩ => ⟨S768x1024, .bf16⟩
  | .hbm, ⟨31, _⟩ => ⟨S256x1024, .f32⟩
  | .hbm, ⟨32, _⟩ => ⟨S256x256, .bf16⟩
  | .hbm, ⟨33, _⟩ => ⟨S256x128, .f32⟩
  | .hbm, ⟨34, _⟩ => ⟨S256x128, .f32⟩
  | .local _ .vmem, ⟨0, _⟩ => ⟨S1024x256, .bf16⟩
  | .local _ .vmem, ⟨1, _⟩ => ⟨S1024x256, .bf16⟩
  | .local _ .vmem, ⟨2, _⟩ => ⟨S256x128, .fp8e4m3⟩
  | .local _ .vmem, ⟨3, _⟩ => ⟨S1x128, .f32⟩
  | .local _ .vmem, ⟨4, _⟩ => ⟨S256x128, .fp8e4m3⟩
  | .local _ .vmem, ⟨5, _⟩ => ⟨S1x128, .f32⟩
  | .local _ .vmem, ⟨6, _⟩ => ⟨S1x128, .f32⟩
  | .local _ .vmem, ⟨7, _⟩ => ⟨S256x128, .fp8e4m3⟩
  | .local _ .vmem, ⟨8, _⟩ => ⟨S1x128, .f32⟩
  | .local _ .vmem, ⟨9, _⟩ => ⟨S1x128, .f32⟩
  | .local _ .vmem, ⟨10, _⟩ => ⟨S128x256, .fp8e4m3⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1024x256, .fp8e4m3⟩
  | .local _ .vmem, ⟨16, _⟩ => ⟨S1x1024, .f32⟩
  | .local _ .vmem, ⟨17, _⟩ => ⟨S1024x256, .fp8e4m3⟩
  | .local _ .vmem, ⟨18, _⟩ => ⟨S1x1024, .f32⟩
  | .local _ .vmem, ⟨19, _⟩ => ⟨S128x1024, .f32⟩
  | .local _ .vmem, ⟨20, _⟩ => ⟨S1024x128, .f32⟩
  | .local _ .vmem, ⟨21, _⟩ => ⟨S768x1024, .bf16⟩
  | .local _ .vmem, ⟨22, _⟩ => ⟨S256x1024, .f32⟩
  | .local _ .vmem, ⟨23, _⟩ => ⟨S256x256, .bf16⟩
  | .local _ .vmem, ⟨24, _⟩ => ⟨S256x128, .f32⟩
  | .local _ .vmem, ⟨25, _⟩ => ⟨S256x128, .f32⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev main_v9_7 : Ref sig .tc := ⟨.hbm, 31, rfl⟩
abbrev main_v9_8 : Ref sig .tc := ⟨.hbm, 32, rfl⟩
abbrev main_v9_9 : Ref sig .tc := ⟨.hbm, 33, rfl⟩
abbrev main_v9_10 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := .none

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x256 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1024x256 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S768x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S256x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
-- ==== Proof.Block.lean ====
module

public import proofs.«01_k».proof.Proof.Gen.KernelIdeal.Frame
public import Idealize.ShloMosaic.Lib.Pipeline.Value

@[expose] public section

set_option maxRecDepth 65536

noncomputable section

namespace Cert.KernelIdeal.Gen

open Idealize.ShloMosaic Idealize.ShloMosaic.TcCoe Idealize.ShloMosaic.Tactic
open Idealize.SL Idealize.SL.Sem

variable {F : FTy → Type} [FloatOps F] [Named F]

/-! ## One batch of the body, in words of its own

The body repeats one sequence for each of its eight batches. The definitions below spell that
sequence once; the theorems at the end say each of the eight found payloads is the sequence at its
batch's loads. -/

/-- The token index of each of the 24 key rows: row `r` holds token `r / 4`. -/
def tokenRows : IVec S24x256 32 :=
  k0_pay6 (iota .tc S24x256 32 [0] iota_S24x256_d0_w32) 4#32 k0_pay4 k0_pay5 1#32 0#32

/-- The mask of a batch with `w` valid tokens. -/
def validRows (w : Elt F .i32) : IVec S24x256 1 := cmpi .slt tokenRows (broadcast S24x256 w)

/-- The logits of a batch with the padded tokens' rows masked, as three groups of eight rows. -/
def maskedRows (L : FVec F S24x256 .f32) (w : Elt F .i32) : FVec F S3x8x256 .f32 :=
  shapeCast S3x8x256 (select (validRows (F := F) w) L (broadcast S24x256 (Named.named κ "mask" 0xF149F2CA#32)))
    shapeCasts_S24x256_S3x8x256

/-- The greatest masked logit of each head over the six tokens. -/
def headMax (X : FVec F S3x8x256 .f32) : FVec F S8x256 .f32 :=
  maximumf (multiReduction .maximumf [0] S8x256 X 0xFF800000#32 reduces_S3x8x256_S8x256 (.inl rfl) rfl)
    (dynamicRotate 0 4#32 none
      (multiReduction .maximumf [0] S8x256 X 0xFF800000#32 reduces_S3x8x256_S8x256 (.inl rfl) rfl) rotates_S8x256_d0)

/-- The powers of two of the masked logits, less the head's greatest. -/
def expRows (X : FVec F S3x8x256 .f32) : FVec F S3x8x256 .f32 :=
  exp2 (subf X (broadcastTo S3x8x256 (shapeCast S1x8x256 (headMax X) shapeCasts_S8x256_S1x8x256)
    broadcasts_S1x8x256_S3x8x256))

/-- The sum of a head's powers over the six tokens. -/
def headSum (E : FVec F S3x8x256 .f32) : FVec F S8x256 .f32 :=
  addf (multiReduction .add [0] S8x256 E 0x00000000#32 reduces_S3x8x256_S8x256 (.inl rfl) rfl)
    (dynamicRotate 0 4#32 none
      (multiReduction .add [0] S8x256 E 0x00000000#32 reduces_S3x8x256_S8x256 (.inl rfl) rfl) rotates_S8x256_d0)

/-- The attention weights: the powers times the reciprocal of their head's sum. -/
def weightRows (L : FVec F S24x256 .f32) (w : Elt F .i32) : FVec F S3x8x256 .f32 :=
  mulf (expRows (maskedRows L w)) (broadcastTo S3x8x256 (shapeCast S1x8x256
    (divf (broadcast S8x256 (Scalar.ofBits .f32 0x3F800000#32)) (headSum (expRows (maskedRows L w))))
    shapeCasts_S8x256_S1x8x256) broadcasts_S1x8x256_S3x8x256)

/-- A value carried to the narrow format and back. -/
def narrowed (P : FVec F S3x8x256 .f32) : FVec F S3x8x256 .f32 := extf .f32 (truncf .bf16 P)

/-- The 144 rows the value product contracts: each weight's leading part and remainders, in the
order of the packed values. -/
def partRows (P : FVec F S3x8x256 .f32) : FVec F S144x256 .bf16 :=
  let hm : FVec F S48x256 .bf16 := shapeCast S48x256 (truncf .bf16 (concatenate S3x16x256 1
    [⟨S3x8x256, narrowed P⟩, ⟨S3x8x256, narrowed (subf P (narrowed P))⟩] concatenates_S3x8x256_S3x8x256_S3x16x256_d1)
    bitsLt_bf16_f32) shapeCasts_S3x16x256_S48x256
  let hl : FVec F S48x256 .bf16 := shapeCast S48x256 (truncf .bf16 (concatenate S3x16x256 1
    [⟨S3x8x256, narrowed P⟩, ⟨S3x8x256, subf (subf P (narrowed P)) (narrowed (subf P (narrowed P)))⟩]
    concatenates_S3x8x256_S3x8x256_S3x16x256_d1) bitsLt_bf16_f32) shapeCasts_S3x16x256_S48x256
  concatenate S144x256 0 [⟨S48x256, hm⟩, ⟨S48x256, hm⟩, ⟨S48x256, hl⟩]
    concatenates_S48x256_S48x256_S48x256_S144x256_d0

/-- The attention output of one group of 64 channels. -/
def groupOut (L : FVec F S24x256 .f32) (w : Elt F .i32) (v : Vec F S1x64x144 .bf16) : FVec F S64x256 .f32 :=
  matmul dot_S64x144_S144x256_S64x256_1_0_0_1_n_n none (shapeCast S64x144 v shapeCasts_S1x64x144_S64x144 : FVec F S64x144 .bf16)
    (partRows (weightRows L w)) (constant S64x256 .f32 0x00000000#32)

/-- The attention output of one batch, both groups. -/
def batchOut (L0 L1 : FVec F S24x256 .f32) (w : Elt F .i32) (va vb : Vec F S1x64x144 .bf16) : FVec F S128x256 .f32 :=
  concatenate S128x256 0 [⟨S64x256, groupOut L0 w va⟩, ⟨S64x256, groupOut L1 w vb⟩] concatenates_S64x256_S64x256_S128x256_d0

/-- The greatest magnitude of each column of 128 channels, over 448. -/
def peak (o : FVec F S128x256 .f32) : FVec F S1x256 .f32 :=
  mulf (shapeCast S1x256 (multiReduction .maximumf [0] S256 (absf o) 0xFF800000#32 reduces_S128x256_S256 (.inl rfl) rfl)
    shapeCasts_S256_S1x256) (broadcast S1x256 (Scalar.ofBits .f32 0x3B124925#32))

/-- One step of the search for the exponent field: try the bit `s`. -/
def searchStep (y : FVec F S1x256 .f32) (f : IVec S1x256 32) (s : BitVec 32) : IVec S1x256 32 :=
  select (cmpf .oge y (bitcastToFloat .f32 (shli (addi f (broadcast S1x256 s)) (broadcast S1x256 23#32))))
    (addi f (broadcast S1x256 s)) f

/-- The exponent field of the greatest power of two not above `y`, at most 246. -/
def fieldOf (y : FVec F S1x256 .f32) : IVec S1x256 32 :=
  minsi (searchStep y (searchStep y (searchStep y (searchStep y (searchStep y (searchStep y (searchStep y (searchStep y
    (broadcast S1x256 0#32) 128#32) 64#32) 32#32) 16#32) 8#32) 4#32) 2#32) 1#32) (broadcast S1x256 246#32)

/-- The scale of a field: twice its power of two. -/
def scaleOf (f : IVec S1x256 32) : FVec F S1x256 .f32 :=
  select (cmpi .eq f (broadcast S1x256 0#32)) (broadcast S1x256 (Scalar.ofBits .f32 0x3F800000#32))
    (bitcastToFloat .f32 (shli (addi f (broadcast S1x256 1#32)) (broadcast S1x256 23#32)))

/-- The reciprocal of the scale of a field. -/
def inverseOf (f : IVec S1x256 32) : FVec F S1x256 .f32 :=
  select (cmpi .eq f (broadcast S1x256 0#32)) (broadcast S1x256 (Scalar.ofBits .f32 0x3F800000#32))
    (bitcastToFloat .f32 (shli (subi (broadcast S1x256 253#32) f) (broadcast S1x256 23#32)))

/-- The scales of a batch's columns. -/
def scales (o : FVec F S128x256 .f32) : FVec F S1x256 .f32 := scaleOf (fieldOf (peak o))

/-- The codes of a batch, channel by column. -/
def codes (o : FVec F S128x256 .f32) : FVec F S128x256 .fp8e4m3 :=
  truncf .fp8e4m3 (minimumf (broadcast S128x256 (Scalar.ofBits .f32 0x43E00000#32))
    (maximumf (broadcast S128x256 (Scalar.ofBits .f32 0xC3E00000#32))
      (mulf o (broadcastTo S128x256 (inverseOf (fieldOf (peak o))) broadcasts_S1x256_S128x256)))) bitsLt_fp8e4m3_f32

/-- The codes block stored for a batch: column by channel. -/
def codesBlock (o : FVec F S128x256 .f32) : FVec F S1x256x128 .fp8e4m3 :=
  shapeCast S1x256x128 (transpose S256x128 [1, 0] (codes o) transposes_S128x256_p1_0_S256x128) shapeCasts_S256x128_S1x256x128

/-- The codes times their scales: what the projection contracts. -/
def dequant (o : FVec F S128x256 .f32) : FVec F S128x256 .bf16 :=
  mulf (extf .bf16 (codes o) bitsLt_fp8e4m3_bf16)
    (broadcastTo S128x256 (truncf .bf16 (scales o) bitsLt_bf16_f32) broadcasts_S1x256_S128x256)

/-- The projection plus the residual. -/
def project (o : FVec F S128x256 .f32) (W : Vec F S256x256 .bf16) (R : Vec F S256x256 .f32) : FVec F S256x256 .f32 :=
  addf (matmul dot_S256x256_S256x256_S256x256_1_0_0_1_n_n none (W : FVec F S256x256 .bf16)
    (concatenate S256x256 0 [⟨S128x256, dequant o⟩, ⟨S128x256, dequant o⟩] concatenates_S128x256_S128x256_S256x256_d0)
    (constant S256x256 .f32 0x00000000#32)) R

/-- The reciprocal root of the mean square of each column. -/
def rootOf (d : FVec F S256x256 .f32) : FVec F S1x256 .f32 :=
  rsqrt (addf (divf (shapeCast S1x256 (multiReduction .add [0] S256 (mulf d d) 0x00000000#32 reduces_S256x256_S256 (.inl rfl) rfl)
    shapeCasts_S256_S1x256) (broadcast S1x256 (Scalar.ofBits .f32 0x43800000#32)))
    (broadcast S1x256 (Scalar.ofBits .f32 0x3727C5AC#32)))

/-- A gain or bias column repeated along the columns. -/
def twice (g : Vec F S256x128 .f32) : FVec F S256x256 .f32 :=
  concatenate S256x256 1 [⟨S256x128, g⟩, ⟨S256x128, g⟩] concatenates_S256x128_S256x128_S256x256_d1

/-- The normalised image block stored for a batch. -/
def imageBlock (d : FVec F S256x256 .f32) (g b : Vec F S256x128 .f32) : FVec F S1x256x256 .bf16 :=
  k0_pay1 (twice g) (twice b) (mulf d (broadcastTo S256x256 (rootOf d) broadcasts_S1x256_S256x256))

/-! ## The eight found payloads -/

section
variable (c : Dev nD) (i : grid0.Coords) (arg3 : Memref sig .tc .vmem S2x192x384 .bf16) (harg3 : arg3.IsWhole) (arg4 : Memref sig .tc .vmem S8x128x144 .bf16) (harg4 : arg4.IsWhole) (arg5 : Memref sig .tc .vmem S768x256 .bf16) (harg5 : arg5.IsWhole) (arg6 : Memref sig .tc .vmem S256x256 .f32) (harg6 : arg6.IsWhole) (arg7 : Memref sig .tc .vmem S256x256 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S8x256x256 .bf16) (harg10 : arg10.IsWhole) (arg11 : Memref sig .tc .vmem S8x256x128 .fp8e4m3) (harg11 : arg11.IsWhole) (arg12 : Memref sig .tc .vmem S8x256 .f32) (harg12 : arg12.IsWhole)
    (x0 : Vec F S2x192x384 .bf16) (x1 : Vec F S8x128x144 .bf16) (x2 : Vec F S768x256 .bf16) (x3 : Vec F S256x256 .f32) (x4 : Vec F S256x256 .bf16) (x5 : Vec F S256x128 .f32) (x6 : Vec F S256x128 .f32) (xt0 : TbBuf0 (F := F) c tbM0_0)

/-- The logits of the first group of heads: rows of all eight batches. -/
def logits0 : FVec F S192x256 .f32 := k0_pay2 (View.ld x2 (Rect.unit ![0, 0] S768x256.size inb_S768x256_S768x256_0_0))
  (View.ld x0 (Rect.unit ![0, 0, 0] S1x192x128.size inb_S2x192x384_S1x192x128_0_0_0))
  (View.ld x0 (Rect.unit ![0, 0, 128] S1x192x128.size inb_S2x192x384_S1x192x128_0_0_128))
  (View.ld x0 (Rect.unit ![0, 0, 256] S1x192x128.size inb_S2x192x384_S1x192x128_0_0_256))

/-- The logits of the second group. -/
def logits1 : FVec F S192x256 .f32 := k0_pay2 (View.ld x2 (Rect.unit ![0, 0] S768x256.size inb_S768x256_S768x256_0_0))
  (View.ld x0 (Rect.unit ![1, 0, 0] S1x192x128.size inb_S2x192x384_S1x192x128_1_0_0))
  (View.ld x0 (Rect.unit ![1, 0, 128] S1x192x128.size inb_S2x192x384_S1x192x128_1_0_128))
  (View.ld x0 (Rect.unit ![1, 0, 256] S1x192x128.size inb_S2x192x384_S1x192x128_1_0_256))

/-- The table word of one batch of the block. -/
def word (k : BitVec 32) (h : ∀ a, k0_off1 i k a + S1.size a ≤ S160.size a) : Elt F .i32 :=
  View.readAt (Elt F) tbM0_0.view (Rect.unit (s := S160) (k0_off1 i k) S1.size h) xt0 (Shape.Idx.first (s := S1) (by decide))

/-- The attention output of batch 0 of the block. -/
def out0 : FVec F S128x256 .f32 :=
  batchOut (extractStridedSlice S24x256 ![0, 0] (logits0 x0 x2) slices_S192x256_o0_0_S24x256)
    (extractStridedSlice S24x256 ![0, 0] (logits1 x0 x2) slices_S192x256_o0_0_S24x256)
    (word (F := F) c i xt0 0#32 (k0_off1_inb i 0))
    (View.ld x1 (Rect.unit ![0, 0, 0] S1x64x144.size inb_S8x128x144_S1x64x144_0_0_0))
    (View.ld x1 (Rect.unit ![0, 64, 0] S1x64x144.size inb_S8x128x144_S1x64x144_0_64_0))

/-- The attention output of batch 1 of the block. -/
def out1 : FVec F S128x256 .f32 :=
  batchOut (extractStridedSlice S24x256 ![24, 0] (logits0 x0 x2) slices_S192x256_o24_0_S24x256)
    (extractStridedSlice S24x256 ![24, 0] (logits1 x0 x2) slices_S192x256_o24_0_S24x256)
    (word (F := F) c i xt0 1#32 (k0_off1_inb i 1))
    (View.ld x1 (Rect.unit ![1, 0, 0] S1x64x144.size inb_S8x128x144_S1x64x144_1_0_0))
    (View.ld x1 (Rect.unit ![1, 64, 0] S1x64x144.size inb_S8x128x144_S1x64x144_1_64_0))

/-- The attention output of batch 2 of the block. -/
def out2 : FVec F S128x256 .f32 :=
  batchOut (extractStridedSlice S24x256 ![48, 0] (logits0 x0 x2) slices_S192x256_o48_0_S24x256)
    (extractStridedSlice S24x256 ![48, 0] (logits1 x0 x2) slices_S192x256_o48_0_S24x256)
    (word (F := F) c i xt0 2#32 (k0_off1_inb i 2))
    (View.ld x1 (Rect.unit ![2, 0, 0] S1x64x144.size inb_S8x128x144_S1x64x144_2_0_0))
    (View.ld x1 (Rect.unit ![2, 64, 0] S1x64x144.size inb_S8x128x144_S1x64x144_2_64_0))

/-- The attention output of batch 3 of the block. -/
def out3 : FVec F S128x256 .f32 :=
  batchOut (extractStridedSlice S24x256 ![72, 0] (logits0 x0 x2) slices_S192x256_o72_0_S24x256)
    (extractStridedSlice S24x256 ![72, 0] (logits1 x0 x2) slices_S192x256_o72_0_S24x256)
    (word (F := F) c i xt0 3#32 (k0_off1_inb i 3))
    (View.ld x1 (Rect.unit ![3, 0, 0] S1x64x144.size inb_S8x128x144_S1x64x144_3_0_0))
    (View.ld x1 (Rect.unit ![3, 64, 0] S1x64x144.size inb_S8x128x144_S1x64x144_3_64_0))

/-- The attention output of batch 4 of the block. -/
def out4 : FVec F S128x256 .f32 :=
  batchOut (extractStridedSlice S24x256 ![96, 0] (logits0 x0 x2) slices_S192x256_o96_0_S24x256)
    (extractStridedSlice S24x256 ![96, 0] (logits1 x0 x2) slices_S192x256_o96_0_S24x256)
    (word (F := F) c i xt0 4#32 (k0_off1_inb i 4))
    (View.ld x1 (Rect.unit ![4, 0, 0] S1x64x144.size inb_S8x128x144_S1x64x144_4_0_0))
    (View.ld x1 (Rect.unit ![4, 64, 0] S1x64x144.size inb_S8x128x144_S1x64x144_4_64_0))

/-- The attention output of batch 5 of the block. -/
def out5 : FVec F S128x256 .f32 :=
  batchOut (extractStridedSlice S24x256 ![120, 0] (logits0 x0 x2) slices_S192x256_o120_0_S24x256)
    (extractStridedSlice S24x256 ![120, 0] (logits1 x0 x2) slices_S192x256_o120_0_S24x256)
    (word (F := F) c i xt0 5#32 (k0_off1_inb i 5))
    (View.ld x1 (Rect.unit ![5, 0, 0] S1x64x144.size inb_S8x128x144_S1x64x144_5_0_0))
    (View.ld x1 (Rect.unit ![5, 64, 0] S1x64x144.size inb_S8x128x144_S1x64x144_5_64_0))

/-- The attention output of batch 6 of the block. -/
def out6 : FVec F S128x256 .f32 :=
  batchOut (extractStridedSlice S24x256 ![144, 0] (logits0 x0 x2) slices_S192x256_o144_0_S24x256)
    (extractStridedSlice S24x256 ![144, 0] (logits1 x0 x2) slices_S192x256_o144_0_S24x256)
    (word (F := F) c i xt0 6#32 (k0_off1_inb i 6))
    (View.ld x1 (Rect.unit ![6, 0, 0] S1x64x144.size inb_S8x128x144_S1x64x144_6_0_0))
    (View.ld x1 (Rect.unit ![6, 64, 0] S1x64x144.size inb_S8x128x144_S1x64x144_6_64_0))

/-- The attention output of batch 7 of the block. -/
def out7 : FVec F S128x256 .f32 :=
  batchOut (extractStridedSlice S24x256 ![168, 0] (logits0 x0 x2) slices_S192x256_o168_0_S24x256)
    (extractStridedSlice S24x256 ![168, 0] (logits1 x0 x2) slices_S192x256_o168_0_S24x256)
    (word (F := F) c i xt0 7#32 (k0_off1_inb i 7))
    (View.ld x1 (Rect.unit ![7, 0, 0] S1x64x144.size inb_S8x128x144_S1x64x144_7_0_0))
    (View.ld x1 (Rect.unit ![7, 64, 0] S1x64x144.size inb_S8x128x144_S1x64x144_7_64_0))

theorem codes_pieces : (kernelRun0_A c i arg3 harg3 arg4 harg4 arg5 harg5 arg6 harg6 arg7 harg7 arg8 harg8 arg9 harg9 arg10 harg10 arg11 harg11 arg12 harg12 x0 x1 x2 x3 x4 x5 x6 xt0).2.1 =
    [⟨Rect.unit ![7, 0, 0] S1x256x128.size inb_S8x256x128_S1x256x128_7_0_0, codesBlock (out7 c i x0 x1 x2 xt0)⟩,
      ⟨Rect.unit ![6, 0, 0] S1x256x128.size inb_S8x256x128_S1x256x128_6_0_0, codesBlock (out6 c i x0 x1 x2 xt0)⟩,
      ⟨Rect.unit ![5, 0, 0] S1x256x128.size inb_S8x256x128_S1x256x128_5_0_0, codesBlock (out5 c i x0 x1 x2 xt0)⟩,
      ⟨Rect.unit ![4, 0, 0] S1x256x128.size inb_S8x256x128_S1x256x128_4_0_0, codesBlock (out4 c i x0 x1 x2 xt0)⟩,
      ⟨Rect.unit ![3, 0, 0] S1x256x128.size inb_S8x256x128_S1x256x128_3_0_0, codesBlock (out3 c i x0 x1 x2 xt0)⟩,
      ⟨Rect.unit ![2, 0, 0] S1x256x128.size inb_S8x256x128_S1x256x128_2_0_0, codesBlock (out2 c i x0 x1 x2 xt0)⟩,
      ⟨Rect.unit ![1, 0, 0] S1x256x128.size inb_S8x256x128_S1x256x128_1_0_0, codesBlock (out1 c i x0 x1 x2 xt0)⟩,
      ⟨Rect.unit ![0, 0, 0] S1x256x128.size inb_S8x256x128_S1x256x128_0_0_0, codesBlock (out0 c i x0 x1 x2 xt0)⟩] := by
  have h0 := harg3.read_unread x0; have h1 := harg4.read_unread x1; have h2 := harg5.read_unread x2
  conv_rhs => rw [← h0, ← h1, ← h2]
  unfold kernelRun0_A
  rfl

theorem scale_pieces : (kernelRun0_A c i arg3 harg3 arg4 harg4 arg5 harg5 arg6 harg6 arg7 harg7 arg8 harg8 arg9 harg9 arg10 harg10 arg11 harg11 arg12 harg12 x0 x1 x2 x3 x4 x5 x6 xt0).2.2.1 =
    [⟨Rect.unit ![7, 0] S1x256.size inb_S8x256_S1x256_7_0, scales (out7 c i x0 x1 x2 xt0)⟩,
      ⟨Rect.unit ![6, 0] S1x256.size inb_S8x256_S1x256_6_0, scales (out6 c i x0 x1 x2 xt0)⟩,
      ⟨Rect.unit ![5, 0] S1x256.size inb_S8x256_S1x256_5_0, scales (out5 c i x0 x1 x2 xt0)⟩,
      ⟨Rect.unit ![4, 0] S1x256.size inb_S8x256_S1x256_4_0, scales (out4 c i x0 x1 x2 xt0)⟩,
      ⟨Rect.unit ![3, 0] S1x256.size inb_S8x256_S1x256_3_0, scales (out3 c i x0 x1 x2 xt0)⟩,
      ⟨Rect.unit ![2, 0] S1x256.size inb_S8x256_S1x256_2_0, scales (out2 c i x0 x1 x2 xt0)⟩,
      ⟨Rect.unit ![1, 0] S1x256.size inb_S8x256_S1x256_1_0, scales (out1 c i x0 x1 x2 xt0)⟩,
      ⟨Rect.unit ![0, 0] S1x256.size inb_S8x256_S1x256_0_0, scales (out0 c i x0 x1 x2 xt0)⟩] := by
  have h0 := harg3.read_unread x0; have h1 := harg4.read_unread x1; have h2 := harg5.read_unread x2
  conv_rhs => rw [← h0, ← h1, ← h2]
  unfold kernelRun0_A
  rfl

theorem image_pieces : (kernelRun0_A c i arg3 harg3 arg4 harg4 arg5 harg5 arg6 harg6 arg7 harg7 arg8 harg8 arg9 harg9 arg10 harg10 arg11 harg11 arg12 harg12 x0 x1 x2 x3 x4 x5 x6 xt0).1 =
    [⟨Rect.unit ![7, 0, 0] S1x256x256.size inb_S8x256x256_S1x256x256_7_0_0, imageBlock (project (out7 c i x0 x1 x2 xt0) (View.ld x4 (Rect.unit ![0, 0] S256x256.size inb_S256x256_S256x256_0_0)) (View.ld x3 (Rect.unit ![0, 0] S256x256.size inb_S256x256_S256x256_0_0))) (View.ld x5 (Rect.unit ![0, 0] S256x128.size inb_S256x128_S256x128_0_0)) (View.ld x6 (Rect.unit ![0, 0] S256x128.size inb_S256x128_S256x128_0_0))⟩,
      ⟨Rect.unit ![6, 0, 0] S1x256x256.size inb_S8x256x256_S1x256x256_6_0_0, imageBlock (project (out6 c i x0 x1 x2 xt0) (View.ld x4 (Rect.unit ![0, 0] S256x256.size inb_S256x256_S256x256_0_0)) (View.ld x3 (Rect.unit ![0, 0] S256x256.size inb_S256x256_S256x256_0_0))) (View.ld x5 (Rect.unit ![0, 0] S256x128.size inb_S256x128_S256x128_0_0)) (View.ld x6 (Rect.unit ![0, 0] S256x128.size inb_S256x128_S256x128_0_0))⟩,
      ⟨Rect.unit ![5, 0, 0] S1x256x256.size inb_S8x256x256_S1x256x256_5_0_0, imageBlock (project (out5 c i x0 x1 x2 xt0) (View.ld x4 (Rect.unit ![0, 0] S256x256.size inb_S256x256_S256x256_0_0)) (View.ld x3 (Rect.unit ![0, 0] S256x256.size inb_S256x256_S256x256_0_0))) (View.ld x5 (Rect.unit ![0, 0] S256x128.size inb_S256x128_S256x128_0_0)) (View.ld x6 (Rect.unit ![0, 0] S256x128.size inb_S256x128_S256x128_0_0))⟩,
      ⟨Rect.unit ![4, 0, 0] S1x256x256.size inb_S8x256x256_S1x256x256_4_0_0, imageBlock (project (out4 c i x0 x1 x2 xt0) (View.ld x4 (Rect.unit ![0, 0] S256x256.size inb_S256x256_S256x256_0_0)) (View.ld x3 (Rect.unit ![0, 0] S256x256.size inb_S256x256_S256x256_0_0))) (View.ld x5 (Rect.unit ![0, 0] S256x128.size inb_S256x128_S256x128_0_0)) (View.ld x6 (Rect.unit ![0, 0] S256x128.size inb_S256x128_S256x128_0_0))⟩,
      ⟨Rect.unit ![3, 0, 0] S1x256x256.size inb_S8x256x256_S1x256x256_3_0_0, imageBlock (project (out3 c i x0 x1 x2 xt0) (View.ld x4 (Rect.unit ![0, 0] S256x256.size inb_S256x256_S256x256_0_0)) (View.ld x3 (Rect.unit ![0, 0] S256x256.size inb_S256x256_S256x256_0_0))) (View.ld x5 (Rect.unit ![0, 0] S256x128.size inb_S256x128_S256x128_0_0)) (View.ld x6 (Rect.unit ![0, 0] S256x128.size inb_S256x128_S256x128_0_0))⟩,
      ⟨Rect.unit ![2, 0, 0] S1x256x256.size inb_S8x256x256_S1x256x256_2_0_0, imageBlock (project (out2 c i x0 x1 x2 xt0) (View.ld x4 (Rect.unit ![0, 0] S256x256.size inb_S256x256_S256x256_0_0)) (View.ld x3 (Rect.unit ![0, 0] S256x256.size inb_S256x256_S256x256_0_0))) (View.ld x5 (Rect.unit ![0, 0] S256x128.size inb_S256x128_S256x128_0_0)) (View.ld x6 (Rect.unit ![0, 0] S256x128.size inb_S256x128_S256x128_0_0))⟩,
      ⟨Rect.unit ![1, 0, 0] S1x256x256.size inb_S8x256x256_S1x256x256_1_0_0, imageBlock (project (out1 c i x0 x1 x2 xt0) (View.ld x4 (Rect.unit ![0, 0] S256x256.size inb_S256x256_S256x256_0_0)) (View.ld x3 (Rect.unit ![0, 0] S256x256.size inb_S256x256_S256x256_0_0))) (View.ld x5 (Rect.unit ![0, 0] S256x128.size inb_S256x128_S256x128_0_0)) (View.ld x6 (Rect.unit ![0, 0] S256x128.size inb_S256x128_S256x128_0_0))⟩,
      ⟨Rect.unit ![0, 0, 0] S1x256x256.size inb_S8x256x256_S1x256x256_0_0_0, imageBlock (project (out0 c i x0 x1 x2 xt0) (View.ld x4 (Rect.unit ![0, 0] S256x256.size inb_S256x256_S256x256_0_0)) (View.ld x3 (Rect.unit ![0, 0] S256x256.size inb_S256x256_S256x256_0_0))) (View.ld x5 (Rect.unit ![0, 0] S256x128.size inb_S256x128_S256x128_0_0)) (View.ld x6 (Rect.unit ![0, 0] S256x128.size inb_S256x128_S256x128_0_0))⟩] := by
  have h0 := harg3.read_unread x0; have h1 := harg4.read_unread x1; have h2 := harg5.read_unread x2
  have h3 := harg6.read_unread x3; have h4 := harg7.read_unread x4; have h5 := harg8.read_unread x5; have h6 := harg9.read_unread x6
  conv_rhs => rw [← h0, ← h1, ← h2, ← h3, ← h4, ← h5, ← h6]
  unfold kernelRun0_A
  rfl

end

end Cert.KernelIdeal.Gen

end
-- ==== Proof.Search.lean ====
module

public import Idealize.ShloMosaic.PureOps.Ideal.Laws
public import Idealize.ShloMosaic.Lib.IdealHost
public import Mathlib.Tactic.Linarith
public import Mathlib.Tactic.Positivity
public import Mathlib.Tactic.NormNum

@[expose] public section

noncomputable section

namespace Cert.Quant

open Idealize.ShloMosaic

/-! # The scale of a column

The kernel searches the exponent field bit by bit; the reference compares with every power of two.
This file shows the two scales, and their reciprocals, are one. -/

/-- The word of a float whose exponent field is `r` and whose fraction is zero. -/
def fieldWord (r : ℕ) : BitVec 32 := BitVec.ofNat 32 r <<< (23 : ℕ)

/-- What that word denotes. -/
def pow (r : ℕ) : EReal := Ideal.ofBits .f32 (fieldWord r)

/-- A field strictly between the ends denotes a power of two. -/
theorem pow_eq (r : ℕ) (h0 : 1 ≤ r) (h1 : r ≤ 254) : pow r = (((2 : ℝ) ^ ((r : ℤ) - 127) : ℝ) : EReal) := by
  have key : ∀ r : Fin 255, 1 ≤ r.val → ((fieldWord r.val).extractLsb' 23 8).toNat = r.val ∧
      ((fieldWord r.val).extractLsb' 0 23).toNat = 0 ∧ ((fieldWord r.val).extractLsb' 31 1 == 1#1) = false := by decide +kernel
  obtain ⟨ha, hb, hc⟩ := key ⟨r, by omega⟩ h0
  simp only at ha hb hc
  unfold pow
  simp only [Ideal.ofBits, Ideal.ieee]
  rw [ha, hb, hc]
  rw [if_neg (by omega), if_neg (by omega)]
  refine congrArg Real.toEReal ?_
  rw [show ∀ z : ℤ, z = ((r : ℤ) - 127) - 23 → (2 : ℝ) ^ z = 2 ^ ((r : ℤ) - 127) / 2 ^ (23 : ℤ) from fun z hz => by
    rw [hz, zpow_sub₀ (by norm_num : (2 : ℝ) ≠ 0)]] <;> norm_num
  field_simp

/-- The field past every number denotes infinity. -/
theorem pow_255 : pow 255 = ⊤ := by
  have ha : ((fieldWord 255).extractLsb' 23 8).toNat = 255 := by decide +kernel
  have hb : ((fieldWord 255).extractLsb' 0 23).toNat = 0 := by decide +kernel
  have hc : ((fieldWord 255).extractLsb' 31 1 == 1#1) = false := by decide +kernel
  unfold pow
  simp only [Ideal.ofBits, Ideal.ieee]
  rw [ha, hb, hc]
  simp

/-- The powers grow with the field. -/
theorem pow_mono {a b : ℕ} (h0 : 1 ≤ a) (hab : a ≤ b) (hb : b ≤ 255) : pow a ≤ pow b := by
  rcases Nat.lt_or_ge b 255 with h | h
  · rw [pow_eq a h0 (by omega), pow_eq b (by omega) (by omega)]
    exact_mod_cast zpow_le_zpow_right₀ (by norm_num : (1 : ℝ) ≤ 2) (show (a : ℤ) - 127 ≤ (b : ℤ) - 127 by omega)
  · rw [show b = 255 by omega, pow_255]; exact le_top

open Classical in
/-- One step of the search, on numbers. -/
def step (y : EReal) (f s : ℕ) : ℕ := if pow (f + s) ≤ y then f + s else f

/-- What holds after the bits above `s` are settled: the field found so far is zero or its power is
not above `y`, and no field at `f + s` or more has its power below `y`. -/
structure Inv (y : EReal) (f s : ℕ) : Prop where
  bound : f + s ≤ 256
  low : f = 0 ∨ pow f ≤ y
  high : ∀ r, f + s ≤ r → r ≤ 255 → ¬ pow r ≤ y

theorem Inv.step {y : EReal} {f s : ℕ} (hs : 1 ≤ s) (h : Inv y f (2 * s)) : Inv y (step y f s) s := by
  have hb := h.bound
  unfold Quant.step
  by_cases hp : pow (f + s) ≤ y
  · rw [if_pos hp]
    exact ⟨by omega, .inr hp, fun r h1 h2 => h.high r (by omega) h2⟩
  · rw [if_neg hp]
    exact ⟨by omega, h.low, fun r h1 h2 hr => hp ((pow_mono (by omega) h1 h2).trans hr)⟩

/-- The search over the eight bits of the field. -/
def search (y : EReal) : ℕ :=
  step y (step y (step y (step y (step y (step y (step y (step y 0 128) 64) 32) 16) 8) 4) 2) 1

theorem search_inv (y : EReal) : Inv y (search y) 1 := by
  have h0 : Inv y 0 256 := ⟨by omega, .inl rfl, fun r h1 h2 => by omega⟩
  exact (((((((h0.step (s := 128) (by omega)).step (s := 64) (by omega)).step (s := 32) (by omega)).step (s := 16)
    (by omega)).step (s := 8) (by omega)).step (s := 4) (by omega)).step (s := 2) (by omega)).step (s := 1) (by omega)

/-- A field of at most 255 has its power at or below `y` just when the search ends at or past it. -/
theorem pow_le_iff (y : EReal) {r : ℕ} (h0 : 1 ≤ r) (h1 : r ≤ 255) : pow r ≤ y ↔ r ≤ search y := by
  have h := search_inv y
  constructor
  · intro hr
    by_contra hlt
    exact h.high r (by omega) h1 hr
  · intro hr
    rcases h.low with h2 | h2
    · omega
    · exact (pow_mono h0 hr (by have := h.bound; omega)).trans h2

/-- The exponent field the kernel keeps. -/
def field (y : EReal) : ℕ := min (search y) 246

theorem field_le (y : EReal) : field y ≤ 246 := min_le_right _ _

/-- The power of two with exponent `k - 126`, as the reference spells it. -/
def refPow (k : ℕ) : EReal := Ideal.exp2 ((((k : ℤ) - 126 : ℤ) : ℝ) : EReal)

theorem refPow_eq (k : ℕ) (h : k < 246) : refPow k = pow (k + 1) := by
  rw [pow_eq (k + 1) (by omega) (by omega)]
  show (((2 : ℝ).rpow _ : ℝ) : EReal) = _
  rw [Real.rpow_eq_pow, Real.rpow_intCast]
  congr 2
  push_cast
  ring

open Classical in
/-- The greatest of the reference's powers of two that is not above `y`, or zero. -/
def below (y : EReal) : EReal := Finset.univ.fold max ⊥ fun k : Fin 246 => if refPow k ≤ y then refPow k else 0

theorem pow_pos (r : ℕ) (h0 : 1 ≤ r) (h1 : r ≤ 254) : 0 < pow r := by
  rw [pow_eq r h0 h1]
  exact_mod_cast zpow_pos (by norm_num : (0 : ℝ) < 2) _

/-- The greatest power below `y` is the power of the kernel's field. -/
theorem below_eq (y : EReal) : below y = if field y = 0 then 0 else pow (field y) := by
  have hf := field_le y
  have hle : ∀ k : Fin 246, (refPow k ≤ y ↔ k.val + 1 ≤ field y) := fun k => by
    rw [refPow_eq k k.isLt, pow_le_iff y (by omega) (by omega)]
    unfold field
    have := k.isLt
    omega
  unfold below
  apply le_antisymm
  · rw [Finset.fold_max_le]
    refine ⟨bot_le, fun k _ => ?_⟩
    by_cases hk : refPow k ≤ y
    · have h1 := (hle k).1 hk
      rw [if_pos hk, if_neg (by omega), refPow_eq k k.isLt]
      exact pow_mono (by omega) h1 (by omega)
    · rw [if_neg hk]
      split
      · exact le_refl _
      · exact (pow_pos _ (by omega) (by omega)).le
  · rw [Finset.le_fold_max]
    right
    by_cases h0 : field y = 0
    · refine ⟨⟨0, by omega⟩, Finset.mem_univ _, ?_⟩
      rw [if_pos h0]
      split
      · rw [refPow_eq _ (by show 0 < 246; omega)]; exact (pow_pos _ (by simp) (by simp)).le
      · exact le_refl _
    · refine ⟨⟨field y - 1, by omega⟩, Finset.mem_univ _, ?_⟩
      have h1 := (hle ⟨field y - 1, by omega⟩).2 (by show field y - 1 + 1 ≤ field y; omega)
      rw [if_neg h0, if_pos h1, refPow_eq _ (by show field y - 1 < 246; omega)]
      rw [show field y - 1 + 1 = field y by omega]

/-- The scale of a column whose magnitude over 448 is `y`, as the reference states it: twice the
greatest power of two not above `y`, and one where there is none. -/
def scale (y : EReal) : EReal := open Classical in if below y = 0 then 1 else 2 * below y

/-- The kernel's scale, from the field. -/
theorem scale_eq (y : EReal) : scale y = if field y = 0 then 1 else pow (field y + 1) := by
  have hf := field_le y
  unfold scale
  rw [below_eq]
  by_cases h0 : field y = 0
  · simp [h0]
  · have hp := pow_pos (field y) (by omega) (by omega)
    rw [if_neg h0, if_neg hp.ne', if_neg h0, pow_eq _ (by omega) (by omega), pow_eq _ (by omega) (by omega)]
    rw [show ((2 : EReal)) = ((2 : ℝ) : EReal) by norm_cast, ← EReal.coe_mul]
    congr 1
    push_cast
    rw [show ((field y : ℤ) + 1 - 127) = ((field y : ℤ) - 127) + 1 by ring, zpow_add_one₀ (by norm_num)]
    ring

/-- The kernel's reciprocal, from the field, is one over the scale. -/
theorem inverse_eq (y : EReal) : (if field y = 0 then 1 else pow (253 - field y)) = Ideal.div 1 (scale y) := by
  have hf := field_le y
  rw [scale_eq]
  by_cases h0 : field y = 0
  · simp only [h0, if_true]
    unfold Ideal.div
    rw [if_neg one_ne_zero]; norm_num
  · rw [if_neg h0, if_neg h0]
    unfold Ideal.div
    rw [if_neg (pow_pos _ (by omega) (by omega)).ne', pow_eq _ (by omega) (by omega), pow_eq _ (by omega) (by omega), one_mul,
      ← EReal.coe_inv, ← zpow_neg]
    congr 2
    push_cast [Nat.cast_sub (show field y ≤ 253 by omega)]
    ring

end Cert.Quant

end
-- ==== Proof.Softmax.lean ====
module

public import Idealize.ShloMosaic.PureOps.Ideal.Laws
public import Idealize.ShloMosaic.Lib.IdealHost
public import Mathlib.Tactic.Linarith
public import Mathlib.Tactic.Positivity
public import Mathlib.Tactic.NormNum

@[expose] public section

noncomputable section

namespace Cert.Attn

open Idealize.ShloMosaic

/-! # The attention weights of one query

Twenty-four rows: row `r` is token `r / 4`, head `r % 4`. -/

/-- The logits with the padded tokens' rows at minus infinity. -/
def masked (n : BitVec 32) (L : Fin 24 → EReal) (r : Fin 24) : EReal :=
  if (BitVec.ofNat 32 (r.val / 4)).slt n then L r else ⊥

/-- The greatest entry of a head over the six tokens. -/
def headMax (X : Fin 24 → EReal) (h : Fin 4) : EReal :=
  Finset.univ.fold max ⊥ fun t : Fin 6 => X ⟨4 * t.val + h.val, by omega⟩

/-- The head of a row. -/
def head (r : Fin 24) : Fin 4 := ⟨r.val % 4, by omega⟩

/-- Two to the entry less its head's greatest. -/
def powers (X : Fin 24 → EReal) (r : Fin 24) : EReal := Ideal.exp2 (X r - headMax X (head r))

/-- The sum of a head's entries over the six tokens. -/
def headSum (E : Fin 24 → EReal) (h : Fin 4) : EReal := ∑ t : Fin 6, E ⟨4 * t.val + h.val, by omega⟩

/-- The attention weights. -/
def weight (n : BitVec 32) (L : Fin 24 → EReal) (r : Fin 24) : EReal :=
  powers (masked n L) r * Ideal.div 1 (headSum (powers (masked n L)) (head r))

theorem le_headMax (X : Fin 24 → EReal) (r : Fin 24) : X r ≤ headMax X (head r) := by
  unfold headMax
  rw [Finset.le_fold_max]
  right
  refine ⟨⟨r.val / 4, by omega⟩, Finset.mem_univ _, ?_⟩
  apply le_of_eq
  congr 1
  apply Fin.ext
  simp only [head]
  omega

/-- Two to a difference with something no smaller lies between zero and one. -/
theorem exp2_sub_range (x m : EReal) (h : x ≤ m) : ∃ e : ℝ, 0 ≤ e ∧ Ideal.exp2 (x - m) = (e : EReal) := by
  have hbot : ∃ e : ℝ, 0 ≤ e ∧ Ideal.exp2 ⊥ = (e : EReal) := ⟨0, le_refl _, rfl⟩
  induction m with
  | bot =>
    have hx : x = ⊥ := le_bot_iff.1 h
    subst hx
    simpa [sub_eq_add_neg] using hbot
  | top => simpa [sub_eq_add_neg] using hbot
  | coe m =>
    induction x with
    | bot => simpa [sub_eq_add_neg] using hbot
    | top => exact absurd h (by simp)
    | coe x =>
      refine ⟨Real.rpow 2 (x - m), Real.rpow_nonneg (by norm_num) _, ?_⟩
      rw [← EReal.coe_sub]
      rfl

theorem powers_range (X : Fin 24 → EReal) (r : Fin 24) : ∃ e : ℝ, 0 ≤ e ∧ powers X r = (e : EReal) :=
  exp2_sub_range _ _ (le_headMax X r)

/-- The weights are real numbers, none negative: with no valid token, or with an infinite logit, the
powers of a head may all vanish, and then so do its weights. -/
theorem weight_range (n : BitVec 32) (L : Fin 24 → EReal) (r : Fin 24) :
    ∃ w : ℝ, 0 ≤ w ∧ weight n L r = (w : EReal) := by
  unfold weight
  generalize masked n L = X
  choose e he hE using powers_range X
  have hsum : headSum (powers X) (head r) = ((∑ t : Fin 6, e ⟨4 * t.val + (head r).val, by omega⟩ : ℝ) : EReal) := by
    unfold headSum
    rw [Finset.sum_congr rfl fun t _ => hE _]
    norm_cast
  rw [hsum, hE r]
  by_cases h0 : (∑ t : Fin 6, e ⟨4 * t.val + (head r).val, by omega⟩) = 0
  · have hz := (Finset.sum_eq_zero_iff_of_nonneg fun t _ => he _).1 h0 ⟨r.val / 4, by omega⟩ (Finset.mem_univ _)
    have hr : e r = 0 := by
      rw [← hz]; congr 1; apply Fin.ext; simp only [head]; omega
    rw [hr]
    exact ⟨0, le_refl _, by simp⟩
  · refine ⟨e r * (1 * (∑ t : Fin 6, e ⟨4 * t.val + (head r).val, by omega⟩)⁻¹), ?_, ?_⟩
    · have : 0 ≤ ∑ t : Fin 6, e ⟨4 * t.val + (head r).val, by omega⟩ := Finset.sum_nonneg fun t _ => he _
      exact mul_nonneg (he r) (mul_nonneg zero_le_one (inv_nonneg.2 this))
    · unfold Ideal.div
      rw [if_neg (by exact_mod_cast h0)]
      push_cast
      rw [EReal.coe_inv]

/-- The parts a weight splits into beyond the first are zero. -/
theorem weight_sub_self (n : BitVec 32) (L : Fin 24 → EReal) (r : Fin 24) : weight n L r - weight n L r = 0 := by
  obtain ⟨w, _, hw⟩ := weight_range n L r
  rw [hw, ← EReal.coe_sub, sub_self]; rfl

/-- A weight times a sum of three is the sum of the products. -/
theorem weight_distrib (n : BitVec 32) (L : Fin 24 → EReal) (r : Fin 24) (a b c : EReal) :
    a * weight n L r + b * weight n L r + c * weight n L r = (a + b + c) * weight n L r := by
  obtain ⟨w, h0, hw⟩ := weight_range n L r
  rw [hw]
  have h1 : (0 : EReal) ≤ (w : EReal) := by exact_mod_cast h0
  have h2 : (w : EReal) ≠ ⊤ := EReal.coe_ne_top w
  rw [EReal.right_distrib_of_nonneg_of_ne_top h1 h2, EReal.right_distrib_of_nonneg_of_ne_top h1 h2]

/-! ## The value product -/

/-- The row of the packed values' 144 columns: part `p`, group of eight `c`, copy `u`, place `i`. -/
def col (p c : Fin 3) (u : Fin 2) (i : Fin 8) : Fin 144 := ⟨48 * p.val + 16 * c.val + 8 * u.val + i.val, by omega⟩

/-- A sum over the 144 columns, by part, group, copy and place. -/
theorem sum_144 (f : Fin 144 → EReal) : ∑ k, f k = ∑ p : Fin 3, ∑ c : Fin 3, ∑ u : Fin 2, ∑ i : Fin 8, f (col p c u i) := by
  let e : Fin 3 × Fin 3 × Fin 2 × Fin 8 ≃ Fin 144 :=
    { toFun := fun q => col q.1 q.2.1 q.2.2.1 q.2.2.2
      invFun := fun k => (⟨k.val / 48, by omega⟩, ⟨k.val % 48 / 16, by omega⟩, ⟨k.val % 16 / 8, by omega⟩, ⟨k.val % 8, by omega⟩)
      left_inv := fun q => by
        obtain ⟨⟨p, hp⟩, ⟨c, hc⟩, ⟨u, hu⟩, ⟨i, hi⟩⟩ := q
        simp only [col, Prod.mk.injEq, Fin.mk.injEq]
        omega
      right_inv := fun k => by
        apply Fin.ext
        simp only [col]
        omega }
  rw [← Equiv.sum_comp e f, Fintype.sum_prod_type]
  refine Finset.sum_congr rfl fun p _ => ?_
  rw [Fintype.sum_prod_type]
  refine Finset.sum_congr rfl fun c _ => ?_
  rw [Fintype.sum_prod_type]
  rfl

/-- A sum over the 24 rows, by group of eight and place. -/
theorem sum_24 (f : Fin 24 → EReal) : ∑ r, f r = ∑ c : Fin 3, ∑ i : Fin 8, f ⟨8 * c.val + i.val, by omega⟩ := by
  let e : Fin 3 × Fin 8 ≃ Fin 24 :=
    { toFun := fun q => ⟨8 * q.1.val + q.2.val, by omega⟩
      invFun := fun k => (⟨k.val / 8, by omega⟩, ⟨k.val % 8, by omega⟩)
      left_inv := fun q => by
        obtain ⟨⟨c, hc⟩, ⟨i, hi⟩⟩ := q
        simp only [Prod.mk.injEq, Fin.mk.injEq]
        omega
      right_inv := fun k => by
        apply Fin.ext
        simp only
        omega }
  rw [← Equiv.sum_comp e f, Fintype.sum_prod_type]
  rfl

/-- The value of a row: the sum of its three parts in the packed columns. -/
def value (v : Fin 144 → EReal) (r : Fin 24) : EReal :=
  v (col 0 ⟨r.val / 8, by omega⟩ 0 ⟨r.val % 8, by omega⟩) + v (col 1 ⟨r.val / 8, by omega⟩ 0 ⟨r.val % 8, by omega⟩)
    + v (col 2 ⟨r.val / 8, by omega⟩ 0 ⟨r.val % 8, by omega⟩)

/-- The attention output of one channel: the values summed with the weights. -/
def attend (n : BitVec 32) (L : Fin 24 → EReal) (v : Fin 144 → EReal) : EReal := ∑ r, value v r * weight n L r

/-- The 144 rows the kernel contracts: the weight in the first copy, zero in the second. -/
theorem sum_parts (n : BitVec 32) (L : Fin 24 → EReal) (v part : Fin 144 → EReal)
    (h0 : ∀ p c i, part (col p c 0 i) = weight n L ⟨8 * c.val + i.val, by omega⟩) (h1 : ∀ p c i, part (col p c 1 i) = 0) :
    ∑ k, v k * part k = attend n L v := by
  rw [sum_144]
  simp only [Fin.sum_univ_two, h0, h1, mul_zero, Finset.sum_const_zero, add_zero]
  rw [Fin.sum_univ_three, ← Finset.sum_add_distrib, ← Finset.sum_add_distrib]
  unfold attend
  rw [sum_24]
  refine Finset.sum_congr rfl fun c _ => ?_
  rw [← Finset.sum_add_distrib, ← Finset.sum_add_distrib]
  refine Finset.sum_congr rfl fun i _ => ?_
  rw [weight_distrib]
  congr 1
  unfold value
  have e1 : (8 * c.val + i.val) / 8 = c.val := by omega
  have e2 : (8 * c.val + i.val) % 8 = i.val := by omega
  simp only [e1, e2, Fin.eta]

end Cert.Attn

end
-- ==== Proof.Image.lean ====
module

public import proofs.«01_k».proof.Proof.Search
public import proofs.«01_k».proof.Proof.Softmax

@[expose] public section

noncomputable section

namespace Cert.Quant

open Idealize.ShloMosaic

/-! # One query's attention output, quantised, projected and normalised

`o` is the attention output of one batch and query over its 128 channels. -/

/-- The greatest magnitude over 448. -/
def peak (o : Fin 128 → EReal) : EReal :=
  (Finset.univ.fold max ⊥ fun c => max (o c) (-o c)) * Ideal.ofBits .f32 0x3B124925#32

/-- The scale. -/
def scaleOf (o : Fin 128 → EReal) : EReal := scale (peak o)

/-- The code of a channel: the output over the scale, clipped to the range of the format. -/
def code (o : Fin 128 → EReal) (c : Fin 128) : EReal :=
  min (Ideal.ofBits .f32 0x43E00000#32) (max (Ideal.ofBits .f32 0xC3E00000#32) (o c * Ideal.div 1 (scaleOf o)))

/-- The value a code stands for. -/
def decoded (o : Fin 128 → EReal) (c : Fin 128) : EReal := code o c * scaleOf o

/-- The projection with both parts of the weights, plus the residual. -/
def project (w : Fin 256 → Fin 256 → EReal) (r : Fin 256 → EReal) (o : Fin 128 → EReal) (e : Fin 256) : EReal :=
  (∑ c : Fin 128, decoded o c * w e ⟨c.val, by omega⟩) + (∑ c : Fin 128, decoded o c * w e ⟨128 + c.val, by omega⟩) + r e

/-- The reciprocal root of the mean square. -/
def root (d : Fin 256 → EReal) : EReal :=
  Ideal.rsqrt (Ideal.div (∑ e, d e * d e) (Ideal.ofBits .f32 0x43800000#32) + Ideal.ofBits .f32 0x3727C5AC#32)

/-- The normalised projection, with gain and bias. -/
def image (w : Fin 256 → Fin 256 → EReal) (r g b : Fin 256 → EReal) (o : Fin 128 → EReal) (e : Fin 256) : EReal :=
  project w r o e * root (project w r o) * g e + b e

/-- A sum over two runs of 128. -/
theorem sum_256 (f : Fin 256 → EReal) :
    ∑ k, f k = (∑ c : Fin 128, f ⟨c.val, by omega⟩) + ∑ c : Fin 128, f ⟨128 + c.val, by omega⟩ := by
  have h := Fin.sum_univ_add (a := 128) (b := 128) f
  exact h

/-! ## The search in words of 32 bits -/

/-- A step of the search on words is the step on numbers. -/
theorem word_step (y : EReal) (f s : ℕ) {w : BitVec 32} (hw : w = BitVec.ofNat 32 f) :
    (if Ideal.ofBits .f32 (IntOp.shli ArithUnit.vector (IntOp.addi w (BitVec.ofNat 32 s)) 23#32) ≤ y
      then IntOp.addi w (BitVec.ofNat 32 s) else w) = BitVec.ofNat 32 (step y f s) := by
  have hs : IntOp.addi w (BitVec.ofNat 32 s) = BitVec.ofNat 32 (f + s) := by
    rw [hw]; exact (BitVec.ofNat_add ..).symm
  have hp : Ideal.ofBits .f32 (IntOp.shli ArithUnit.vector (BitVec.ofNat 32 (f + s)) 23#32) = pow (f + s) := by
    unfold pow fieldWord
    congr 1
  unfold step
  rw [hs, hp, hw]
  split <;> rfl

theorem search_le (y : EReal) : search y ≤ 255 := by have := (search_inv y).bound; omega

/-- The kernel's field in words. -/
theorem word_field (y : EReal) : IntOp.minsi (BitVec.ofNat 32 (search y)) 246#32 = BitVec.ofNat 32 (field y) := by
  have key : ∀ r : Fin 256, IntOp.minsi (BitVec.ofNat 32 r.val) 246#32 = BitVec.ofNat 32 (min r.val 246) := by decide +kernel
  exact key ⟨search y, by have := search_le y; omega⟩

/-- The kernel's scale in words. -/
theorem word_scale (y : EReal) : Scalar.select (IntOp.cmpi CmpIPredicate.eq (BitVec.ofNat 32 (field y)) 0#32) (1 : EReal)
    (Ideal.ofBits FTy.f32 (IntOp.shli ArithUnit.vector (IntOp.addi (BitVec.ofNat 32 (field y)) 1#32) 23#32)) = scale y := by
  have key : ∀ r : Fin 247, IntOp.cmpi CmpIPredicate.eq (BitVec.ofNat 32 r.val) 0#32 = (if r.val = 0 then 1#1 else 0#1) ∧
    IntOp.shli ArithUnit.vector (IntOp.addi (BitVec.ofNat 32 r.val) 1#32) 23#32 = fieldWord (r.val + 1) := by decide +kernel
  obtain ⟨h1, h2⟩ := key ⟨field y, by have := field_le y; omega⟩
  rw [scale_eq, h1, h2]
  unfold pow
  simp only
  split <;> rfl

/-- The kernel's reciprocal in words. -/
theorem word_inverse (y : EReal) : Scalar.select (IntOp.cmpi CmpIPredicate.eq (BitVec.ofNat 32 (field y)) 0#32) (1 : EReal)
    (Ideal.ofBits FTy.f32 (IntOp.shli ArithUnit.vector (IntOp.subi 253#32 (BitVec.ofNat 32 (field y))) 23#32))
      = Ideal.div 1 (scale y) := by
  have key : ∀ r : Fin 247, IntOp.cmpi CmpIPredicate.eq (BitVec.ofNat 32 r.val) 0#32 = (if r.val = 0 then 1#1 else 0#1) ∧
    IntOp.shli ArithUnit.vector (IntOp.subi 253#32 (BitVec.ofNat 32 r.val)) 23#32 = fieldWord (253 - r.val) := by decide +kernel
  obtain ⟨h1, h2⟩ := key ⟨field y, by have := field_le y; omega⟩
  rw [← inverse_eq, h1, h2]
  unfold pow
  simp only
  split <;> rfl

end Cert.Quant

end
-- ==== Proof.BlockAt.lean ====
module

public import proofs.«01_k».proof.Proof.Block
public import proofs.«01_k».proof.Proof.Image
public import Idealize.ShloMosaic.Lib.Pointwise

@[expose] public section

set_option maxRecDepth 65536

noncomputable section

namespace Cert.KernelIdeal.Gen

open Idealize.ShloMosaic Idealize.ShloMosaic.TcCoe Idealize.ShloMosaic.Tactic
open Idealize.SL Idealize.SL.Sem
open Idealize.ShloMosaic.Pointwise

/-! # The body's words at an index, over the reals

Each definition of `Block` read at one row and column is the mathematics of `Softmax` and `Image`. -/

theorem negInf : Ideal.ofBits .f32 0xFF800000#32 = ⊥ := by
  simp [Ideal.ofBits, Ideal.ieee]

theorem tokenRows_at (r : Fin 24) (l : Fin 256) : tokenRows (ix2 r l) = BitVec.ofNat 32 (r.val / 4) := by
  pointwise [tokenRows, k0_pay4, k0_pay5, k0_pay6]
  revert r
  decide +kernel

theorem maskedRows_at (L : FVec Ideal S24x256 .f32) (w : Elt Ideal .i32) (a : Fin 3) (b : Fin 8) (l : Fin 256) :
    maskedRows L w (ix3 a b l) = Attn.masked w (fun r => L (ix2 r l)) ⟨8 * a.val + b.val, by omega⟩ := by
  pointwise [maskedRows, validRows]
  rw [tokenRows_at, IdealRules.named_const.ideal_named_scalar _ _ _ _ rfl]
  unfold Attn.masked
  simp only [Nat.mul_comm]
  cases h : (BitVec.ofNat 32 ((a.val * 8 + b.val) / 4)).slt w
  · simp [IntOp.cmpi, h, Scalar.select]
  · simp [IntOp.cmpi, h, Scalar.select]

/-- A head's greatest over three groups of eight rows, two tokens to the group. -/
theorem headMax_at (X : FVec Ideal S3x8x256 .f32) (Y : Fin 24 → EReal) (l : Fin 256)
    (hX : ∀ (a : Fin 3) (b : Fin 8), X (ix3 a b l) = Y ⟨8 * a.val + b.val, by omega⟩) (b : Fin 8) :
    headMax X (ix2 b l) = Attn.headMax Y ⟨b.val % 4, by omega⟩ := by
  pointwise [headMax]
  rw [negInf]
  simp only [hX]
  unfold Attn.headMax
  apply le_antisymm
  · rw [max_le_iff, Finset.fold_max_le, Finset.fold_max_le]
    refine ⟨⟨bot_le, fun a _ => ?_⟩, bot_le, fun a _ => ?_⟩
    · rw [Finset.le_fold_max]
      refine .inr ⟨⟨2 * a.val + b.val / 4, by omega⟩, Finset.mem_univ _, le_of_eq (congrArg Y (Fin.ext ?_))⟩
      simp only; omega
    · rw [Finset.le_fold_max]
      refine .inr ⟨⟨2 * a.val + (b.val + 8 - 4) % 8 / 4, by omega⟩, Finset.mem_univ _, le_of_eq (congrArg Y (Fin.ext ?_))⟩
      simp only; omega
  · rw [Finset.fold_max_le]
    refine ⟨bot_le, fun t _ => ?_⟩
    rw [le_max_iff]
    by_cases h : t.val % 2 = b.val / 4
    · left
      rw [Finset.le_fold_max]
      refine .inr ⟨⟨t.val / 2, by omega⟩, Finset.mem_univ _, le_of_eq (congrArg Y (Fin.ext ?_))⟩
      simp only; omega
    · right
      rw [Finset.le_fold_max]
      refine .inr ⟨⟨t.val / 2, by omega⟩, Finset.mem_univ _, le_of_eq (congrArg Y (Fin.ext ?_))⟩
      simp only; omega

theorem expRows_at (X : FVec Ideal S3x8x256 .f32) (Y : Fin 24 → EReal) (l : Fin 256)
    (hX : ∀ (a : Fin 3) (b : Fin 8), X (ix3 a b l) = Y ⟨8 * a.val + b.val, by omega⟩) (a : Fin 3) (b : Fin 8) :
    expRows X (ix3 a b l) = Attn.powers Y ⟨8 * a.val + b.val, by omega⟩ := by
  pointwise [expRows]
  rw [headMax_at X Y l hX, hX]
  unfold Attn.powers
  show Ideal.exp2 _ = _
  congr 3
  simp only [Attn.head, Fin.mk.injEq]; omega

theorem headSum_at (E : FVec Ideal S3x8x256 .f32) (Y : Fin 24 → EReal) (l : Fin 256)
    (hX : ∀ (a : Fin 3) (b : Fin 8), E (ix3 a b l) = Y ⟨8 * a.val + b.val, by omega⟩) (b : Fin 8) :
    headSum E (ix2 b l) = Attn.headSum Y ⟨b.val % 4, by omega⟩ := by
  pointwise [headSum]
  simp only [hX]
  unfold Attn.headSum
  rw [Fin.sum_univ_six, Fin.sum_univ_three, Fin.sum_univ_three]
  obtain ⟨b, hb⟩ := b
  by_cases h : b < 4
  · have e1 : (b + 8 - 4) % 8 = b + 4 := by omega
    have e2 : b % 4 = b := by omega
    simp only [e1, e2]
    simp +arith only [Fin.val_zero, Fin.val_one, Fin.val_two, show (3 : Fin 6).val = 3 from rfl, show (4 : Fin 6).val = 4 from rfl, show (5 : Fin 6).val = 5 from rfl]
    abel
  · have e1 : (b + 8 - 4) % 8 = b - 4 := by omega
    have e2 : b % 4 = b - 4 := by omega
    obtain ⟨c, rfl⟩ : ∃ c, b = c + 4 := ⟨b - 4, by omega⟩
    simp only [e1, e2, Nat.add_sub_cancel]
    simp +arith only [Fin.val_zero, Fin.val_one, Fin.val_two, show (3 : Fin 6).val = 3 from rfl, show (4 : Fin 6).val = 4 from rfl, show (5 : Fin 6).val = 5 from rfl]
    abel

theorem weightRows_at (L : FVec Ideal S24x256 .f32) (w : Elt Ideal .i32) (a : Fin 3) (b : Fin 8) (l : Fin 256) :
    weightRows L w (ix3 a b l) = Attn.weight w (fun r => L (ix2 r l)) ⟨8 * a.val + b.val, by omega⟩ := by
  pointwise [weightRows]
  rw [headSum_at _ _ l (expRows_at _ _ l fun a b => maskedRows_at L w a b l), expRows_at _ _ l fun a b => maskedRows_at L w a b l]
  unfold Attn.weight
  congr 3
  simp only [Attn.head, Fin.mk.injEq]; omega

theorem partRows_fst (L : FVec Ideal S24x256 .f32) (w : Elt Ideal .i32) (l : Fin 256) (p c : Fin 3) (i : Fin 8) :
    partRows (weightRows L w) (ix2 (Attn.col p c 0 i) l) = Attn.weight w (fun r => L (ix2 r l)) ⟨8 * c.val + i.val, by omega⟩ := by
  rw [← weightRows_at L w c i l]
  generalize weightRows L w = P
  pointwise [partRows, narrowed]
  have e : ∀ (x : ℕ) (y : ℕ) (hx : x < 3) (hy : y < 8), x = c.val → y = i.val → P (ix3 ⟨x, hx⟩ ⟨y, hy⟩ l) = P (ix3 c i l) := by
    intro x y hx hy h1 h2; subst h1; subst h2; rfl
  have hk : (Attn.col p c 0 i).val = 48 * p.val + 16 * c.val + i.val := rfl
  obtain hp | hp | hp : p.val = 0 ∨ p.val = 1 ∨ p.val = 2 := by omega
  · rw [dif_pos (by omega), dif_pos (by omega)]; exact e _ _ _ _ (by omega) (by omega)
  · rw [dif_neg (by omega), dif_pos (by omega), dif_pos (by omega)]; exact e _ _ _ _ (by omega) (by omega)
  · rw [dif_neg (by omega), dif_neg (by omega), dif_pos (by omega)]; exact e _ _ _ _ (by omega) (by omega)

theorem partRows_snd (L : FVec Ideal S24x256 .f32) (w : Elt Ideal .i32) (l : Fin 256) (p c : Fin 3) (i : Fin 8) :
    partRows (weightRows L w) (ix2 (Attn.col p c 1 i) l) = 0 := by
  have h : ∀ a b, weightRows L w (ix3 a b l) - weightRows L w (ix3 a b l) = (0 : EReal) := fun a b => by
    rw [weightRows_at]; exact Attn.weight_sub_self ..
  revert h
  generalize weightRows L w = P
  intro h
  pointwise [partRows, narrowed]
  have hk : (Attn.col p c 1 i).val = 48 * p.val + 16 * c.val + 8 + i.val := rfl
  simp only [h]
  obtain hp | hp | hp : p.val = 0 ∨ p.val = 1 ∨ p.val = 2 := by omega
  · rw [dif_pos (by omega), dif_neg (by omega)]
  · rw [dif_neg (by omega), dif_pos (by omega), dif_neg (by omega)]
  · rw [dif_neg (by omega), dif_neg (by omega), dif_neg (by omega)]; simp

theorem groupOut_at (L : FVec Ideal S24x256 .f32) (w : Elt Ideal .i32) (v : Vec Ideal S1x64x144 .bf16) (d : Fin 64) (l : Fin 256) :
    groupOut L w v (ix2 d l) = Attn.attend w (fun r => L (ix2 r l)) fun k => v (ix3 0 d k) := by
  pointwise [groupOut]
  exact Attn.sum_parts w _ _ _ (partRows_fst L w l) (partRows_snd L w l)

theorem batchOut_at (L0 L1 : FVec Ideal S24x256 .f32) (w : Elt Ideal .i32) (va vb : Vec Ideal S1x64x144 .bf16) (d : Fin 128) (l : Fin 256) :
    batchOut L0 L1 w va vb (ix2 d l) =
      if h : d.val < 64 then Attn.attend w (fun r => L0 (ix2 r l)) fun k => va (ix3 0 ⟨d.val, h⟩ k)
      else Attn.attend w (fun r => L1 (ix2 r l)) fun k => vb (ix3 0 ⟨d.val - 64, by omega⟩ k) := by
  pointwise [batchOut]
  simp only [groupOut_at]

theorem peak_at (o : FVec Ideal S128x256 .f32) (l : Fin 256) :
    peak o (ix2 0 l) = Quant.peak fun c => o (ix2 c l) := by
  pointwise [peak]
  rw [negInf]
  rfl

theorem searchStep_at (y : FVec Ideal S1x256 .f32) (f : IVec S1x256 32) (s n : ℕ) (l : Fin 256)
    (hf : f (ix2 0 l) = BitVec.ofNat 32 n) :
    searchStep y f (BitVec.ofNat 32 s) (ix2 0 l) = BitVec.ofNat 32 (Quant.step (y (ix2 0 l)) n s) := by
  pointwise [searchStep]
  exact Quant.word_step _ _ _ hf

theorem fieldOf_at (y : FVec Ideal S1x256 .f32) (l : Fin 256) :
    fieldOf y (ix2 0 l) = BitVec.ofNat 32 (Quant.field (y (ix2 0 l))) := by
  pointwise [fieldOf]
  rw [← Quant.word_field]
  congr 1
  exact searchStep_at _ _ 1 _ _ (searchStep_at _ _ 2 _ _ (searchStep_at _ _ 4 _ _ (searchStep_at _ _ 8 _ _ (searchStep_at _ _ 16 _ _
    (searchStep_at _ _ 32 _ _ (searchStep_at _ _ 64 _ _ (searchStep_at _ _ 128 0 _ rfl)))))))

theorem scales_at (o : FVec Ideal S128x256 .f32) (l : Fin 256) :
    scales o (ix2 0 l) = Quant.scaleOf fun c => o (ix2 c l) := by
  pointwise [scales, scaleOf]
  rw [fieldOf_at, peak_at]
  exact Quant.word_scale _

theorem inverse_at (o : FVec Ideal S128x256 .f32) (l : Fin 256) :
    (inverseOf (fieldOf (peak o)) : FVec Ideal S1x256 .f32) (ix2 0 l) = Ideal.div 1 (Quant.scaleOf fun c => o (ix2 c l)) := by
  pointwise [inverseOf]
  rw [fieldOf_at, peak_at]
  exact Quant.word_inverse _

theorem codes_at (o : FVec Ideal S128x256 .f32) (c : Fin 128) (l : Fin 256) :
    codes o (ix2 c l) = Quant.code (fun c => o (ix2 c l)) c := by
  pointwise [codes]
  rw [inverse_at]
  rfl

theorem codesBlock_at (o : FVec Ideal S128x256 .f32) (u : Fin 1) (c : Fin 128) (l : Fin 256) :
    codesBlock o (ix3 u l c) = Quant.code (fun c => o (ix2 c l)) c := by
  pointwise [codesBlock]
  exact codes_at o c l

theorem dequant_at (o : FVec Ideal S128x256 .f32) (c : Fin 128) (l : Fin 256) :
    dequant o (ix2 c l) = Quant.decoded (fun c => o (ix2 c l)) c := by
  pointwise [dequant]
  rw [codes_at, scales_at]
  rfl

theorem project_at (o : FVec Ideal S128x256 .f32) (W : Vec Ideal S256x256 .bf16) (R : Vec Ideal S256x256 .f32) (e : Fin 256) (l : Fin 256) :
    project o W R (ix2 e l) = Quant.project (fun e k => W (ix2 e k)) (fun e => R (ix2 e l)) (fun c => o (ix2 c l)) e := by
  pointwise [project]
  simp only [dequant_at]
  unfold Quant.project
  simp only [mul_comm]

theorem rootOf_at (d : FVec Ideal S256x256 .f32) (l : Fin 256) :
    rootOf d (ix2 0 l) = Quant.root fun e => d (ix2 e l) := by
  pointwise [rootOf]
  rfl

theorem imageBlock_at (o : FVec Ideal S128x256 .f32) (W : Vec Ideal S256x256 .bf16) (R : Vec Ideal S256x256 .f32)
    (g b : Vec Ideal S256x128 .f32) (u : Fin 1) (l e : Fin 256) :
    imageBlock (project o W R) g b (ix3 u l e) =
      Quant.image (fun e k => W (ix2 e k)) (fun e => R (ix2 e l)) (fun e => g (ix2 e ⟨l.val % 128, by omega⟩))
        (fun e => b (ix2 e ⟨l.val % 128, by omega⟩)) (fun c => o (ix2 c l)) e := by
  pointwise [imageBlock, twice, k0_pay1]
  rw [rootOf_at, project_at]
  simp only [project_at]
  unfold Quant.image
  split
  · simp only [Nat.mod_eq_of_lt (by assumption : l.val < 128)]
  · have h : l.val - 128 = l.val % 128 := by omega
    simp only [h]

end Cert.KernelIdeal.Gen
end
-- ==== Proof.Spec.lean ====
module

public import proofs.«01_k».proof.Proof.Image

@[expose] public section

noncomputable section

namespace Cert.Spec

open Idealize.ShloMosaic

/-! # What the program computes, array by array

`n` valid token counts, `kl` packed keys (group, row `24 B + r`, column), `vl` packed values (batch,
channel, column), `q` packed queries (column, query). -/

/-- The column of the packed keys that meets column `k` of the packed queries: the six runs of 128 read
the leading part twice, the middle part twice, the leading part, and the last part. -/
def keyCol (k : Fin 768) : Fin 384 :=
  if k.val < 128 then ⟨k.val % 128, by omega⟩ else if k.val < 256 then ⟨k.val % 128, by omega⟩
  else if k.val < 384 then ⟨128 + k.val % 128, by omega⟩ else if k.val < 512 then ⟨128 + k.val % 128, by omega⟩
  else if k.val < 640 then ⟨k.val % 128, by omega⟩ else ⟨256 + k.val % 128, by omega⟩

/-- The columns the six runs of the concatenated keys come from. -/
theorem concat_cols (r : Fin 384 → EReal) (k : Fin 768) :
    (if h : k.val < 128 then r ⟨k.val, by omega⟩
      else if h : k.val - 128 < 128 then r ⟨k.val - 128, by omega⟩
      else if h : k.val - 128 - 128 < 128 then r ⟨128 + (k.val - 128 - 128), by omega⟩
      else if h : k.val - 128 - 128 - 128 < 128 then r ⟨128 + (k.val - 128 - 128 - 128), by omega⟩
      else if h : k.val - 128 - 128 - 128 - 128 < 128 then r ⟨k.val - 128 - 128 - 128 - 128, by omega⟩
      else r ⟨256 + (k.val - 128 - 128 - 128 - 128 - 128), by omega⟩) = r (keyCol k) := by
  unfold keyCol
  split_ifs <;> first | omega | exact congrArg r (Fin.ext (by simp only; omega))

/-- A row of packed keys against a column of packed queries. -/
def logit (K : Fin 384 → EReal) (q : Fin 768 → EReal) : EReal := ∑ k, K (keyCol k) * q k

/-- One batch and query: channel `d` attends with its group's keys. -/
def out (n : BitVec 32) (K : Fin 2 → Fin 24 → Fin 384 → EReal) (q : Fin 768 → EReal) (v : Fin 128 → Fin 144 → EReal)
    (d : Fin 128) : EReal :=
  Attn.attend n (fun r => logit (K ⟨d.val / 64, by omega⟩ r) q) (v d)

variable (n : Fin 160 → BitVec 32) (kl : Fin 2 → Fin 3840 → Fin 384 → EReal) (vl : Fin 160 → Fin 128 → Fin 144 → EReal)
  (q : Fin 768 → Fin 1024 → EReal)

/-- The attention output of batch `B` and query `S`. -/
def attention (B : Fin 160) (S : Fin 1024) : Fin 128 → EReal :=
  out (n B) (fun g r k => kl g ⟨24 * B.val + r.val, by omega⟩ k) (fun k => q k S) (vl B)

variable (w : Fin 256 → Fin 256 → EReal) (xbc : Fin 256 → Fin 1024 → EReal) (g b : Fin 256 → Fin 128 → EReal)

/-- The normalised image of batch `B` and query `S`. -/
def image (B : Fin 160) (S : Fin 1024) (e : Fin 256) : EReal :=
  Quant.image w (fun e => xbc e S) (fun e => g e ⟨S.val % 128, by omega⟩) (fun e => b e ⟨S.val % 128, by omega⟩)
    (attention n kl vl q B S) e

end Cert.Spec

end
-- ==== Proof.Outs.lean ====
module

public import proofs.«01_k».proof.Proof.BlockAt
public import proofs.«01_k».proof.Proof.Spec

@[expose] public section

set_option maxRecDepth 65536

noncomputable section

namespace Cert.KernelIdeal.Gen

open Idealize.ShloMosaic Idealize.ShloMosaic.TcCoe Idealize.ShloMosaic.Tactic
open Idealize.SL Idealize.SL.Sem
open Idealize.ShloMosaic.Pointwise

/-! # The attention output of each batch of a block

Each `outB` of `Block` at a channel and column is `Spec.out` of the block's own rows. -/

variable (c : Dev nD) (i : grid0.Coords)
    (x0 : Vec Ideal S2x192x384 .bf16) (x1 : Vec Ideal S8x128x144 .bf16) (x2 : Vec Ideal S768x256 .bf16) (xt0 : TbBuf0 (F := Ideal) c tbM0_0)

theorem logits0_at (r : Fin 192) (l : Fin 256) :
    logits0 x0 x2 (ix2 r l) = Spec.logit (fun k => x0 (ix3 0 r k)) fun k => x2 (ix2 k l) := by
  pointwise [logits0, k0_pay2]
  unfold Spec.logit
  exact Finset.sum_congr rfl fun k _ => congrArg (· * x2 (ix2 k l)) (Spec.concat_cols (fun k => x0 (ix3 0 r k)) k)

theorem logits1_at (r : Fin 192) (l : Fin 256) :
    logits1 x0 x2 (ix2 r l) = Spec.logit (fun k => x0 (ix3 1 r k)) fun k => x2 (ix2 k l) := by
  pointwise [logits1, k0_pay2]
  unfold Spec.logit
  exact Finset.sum_congr rfl fun k _ => congrArg (· * x2 (ix2 k l)) (Spec.concat_cols (fun k => x0 (ix3 1 r k)) k)

theorem row_lt (b : Fin 8) : 8 * (i 0).val + b.val < 160 := by
  have h : (i 0).val < 20 := (i 0).isLt
  omega

theorem word_at (b : Fin 8) (k : BitVec 32) (hk : k = BitVec.ofNat 32 b.val) (h) : word (F := Ideal) c i xt0 k h =
    (xt0 : S160.Idx → BitVec 32) (ix1 ⟨8 * (i 0).val + b.val, row_lt i b⟩) := by
  have key : ∀ (a : Fin 20) (b : Fin 8), (Scalar.indexCast (Scalar.addi (Scalar.muli (BitVec.ofNat 32 a.val) 8#32) (BitVec.ofNat 32 b.val))).toNat = 8 * a.val + b.val := by
    decide +kernel
  subst hk
  unfold word
  show (xt0 : S160.Idx → BitVec 32) _ = _
  refine congrArg _ (funext fun a => ?_)
  match a with
  | ⟨0, _⟩ =>
    apply Fin.ext
    have := key ⟨(i 0).val, (i 0).isLt⟩ b
    show k0_off1 i (BitVec.ofNat 32 b.val) 0 + 1 * 0 = 8 * (i 0).val + b.val
    rw [← this]
    rfl

/-- The attention output of batch `b` of the block, by its number. -/
def outs (b : Fin 8) : FVec Ideal S128x256 .f32 := match b with
  | 0 => out0 c i x0 x1 x2 xt0
  | 1 => out1 c i x0 x1 x2 xt0
  | 2 => out2 c i x0 x1 x2 xt0
  | 3 => out3 c i x0 x1 x2 xt0
  | 4 => out4 c i x0 x1 x2 xt0
  | 5 => out5 c i x0 x1 x2 xt0
  | 6 => out6 c i x0 x1 x2 xt0
  | 7 => out7 c i x0 x1 x2 xt0

/-- A batch's rows are its 24 of the block's 192. -/
theorem batch_spec (b : Fin 8) (L0 L1 : FVec Ideal S24x256 .f32) (va vb : Vec Ideal S1x64x144 .bf16) (w : Elt Ideal .i32) (d : Fin 128) (l : Fin 256)
    (hw : w = (xt0 : S160.Idx → BitVec 32) (ix1 ⟨8 * (i 0).val + b.val, row_lt i b⟩))
    (h0 : ∀ r : Fin 24, L0 (ix2 r l) = logits0 x0 x2 (ix2 ⟨24 * b.val + r.val, by omega⟩ l))
    (h1 : ∀ r : Fin 24, L1 (ix2 r l) = logits1 x0 x2 (ix2 ⟨24 * b.val + r.val, by omega⟩ l))
    (ha : ∀ (d : Fin 64) k, va (ix3 0 d k) = x1 (ix3 b ⟨d.val, by omega⟩ k))
    (hb : ∀ (d : Fin 64) k, vb (ix3 0 d k) = x1 (ix3 b ⟨64 + d.val, by omega⟩ k)) :
    batchOut L0 L1 w va vb (ix2 d l) =
      Spec.out ((xt0 : S160.Idx → BitVec 32) (ix1 ⟨8 * (i 0).val + b.val, row_lt i b⟩))
        (fun g r k => x0 (ix3 g ⟨24 * b.val + r.val, by omega⟩ k)) (fun k => x2 (ix2 k l)) (fun d k => x1 (ix3 b d k)) d := by
  rw [batchOut_at, hw]
  simp only [h0, h1, ha, hb, logits0_at, logits1_at]
  unfold Spec.out
  by_cases hd : d.val < 64
  · rw [dif_pos hd]
    have e : (⟨d.val / 64, by omega⟩ : Fin 2) = 0 := Fin.ext (by show d.val / 64 = 0; omega)
    rw [e]
  · rw [dif_neg hd]
    have e : (⟨d.val / 64, by omega⟩ : Fin 2) = 1 := Fin.ext (by show d.val / 64 = 1; omega)
    have e2 : (⟨64 + (d.val - 64), by omega⟩ : Fin 128) = d := Fin.ext (by show 64 + (d.val - 64) = d.val; omega)
    rw [e]
    simp only [e2]

theorem outs_at (b : Fin 8) (d : Fin 128) (l : Fin 256) :
    outs c i x0 x1 x2 xt0 b (ix2 d l) =
      Spec.out ((xt0 : S160.Idx → BitVec 32) (ix1 ⟨8 * (i 0).val + b.val, row_lt i b⟩))
        (fun g r k => x0 (ix3 g ⟨24 * b.val + r.val, by omega⟩ k)) (fun k => x2 (ix2 k l)) (fun d k => x1 (ix3 b d k)) d := by
  match b with
  | 0 =>
    show out0 c i x0 x1 x2 xt0 (ix2 d l) = _
    unfold out0
    refine batch_spec c i x0 x1 x2 xt0 0 _ _ _ _ _ d l (word_at c i xt0 0 0#32 rfl _) (fun r => ?_) (fun r => ?_) (fun d k => ?_) (fun d k => ?_)
    all_goals pointwise
  | 1 =>
    show out1 c i x0 x1 x2 xt0 (ix2 d l) = _
    unfold out1
    refine batch_spec c i x0 x1 x2 xt0 1 _ _ _ _ _ d l (word_at c i xt0 1 1#32 rfl _) (fun r => ?_) (fun r => ?_) (fun d k => ?_) (fun d k => ?_)
    all_goals pointwise
  | 2 =>
    show out2 c i x0 x1 x2 xt0 (ix2 d l) = _
    unfold out2
    refine batch_spec c i x0 x1 x2 xt0 2 _ _ _ _ _ d l (word_at c i xt0 2 2#32 rfl _) (fun r => ?_) (fun r => ?_) (fun d k => ?_) (fun d k => ?_)
    all_goals pointwise
  | 3 =>
    show out3 c i x0 x1 x2 xt0 (ix2 d l) = _
    unfold out3
    refine batch_spec c i x0 x1 x2 xt0 3 _ _ _ _ _ d l (word_at c i xt0 3 3#32 rfl _) (fun r => ?_) (fun r => ?_) (fun d k => ?_) (fun d k => ?_)
    all_goals pointwise
  | 4 =>
    show out4 c i x0 x1 x2 xt0 (ix2 d l) = _
    unfold out4
    refine batch_spec c i x0 x1 x2 xt0 4 _ _ _ _ _ d l (word_at c i xt0 4 4#32 rfl _) (fun r => ?_) (fun r => ?_) (fun d k => ?_) (fun d k => ?_)
    all_goals pointwise
  | 5 =>
    show out5 c i x0 x1 x2 xt0 (ix2 d l) = _
    unfold out5
    refine batch_spec c i x0 x1 x2 xt0 5 _ _ _ _ _ d l (word_at c i xt0 5 5#32 rfl _) (fun r => ?_) (fun r => ?_) (fun d k => ?_) (fun d k => ?_)
    all_goals pointwise
  | 6 =>
    show out6 c i x0 x1 x2 xt0 (ix2 d l) = _
    unfold out6
    refine batch_spec c i x0 x1 x2 xt0 6 _ _ _ _ _ d l (word_at c i xt0 6 6#32 rfl _) (fun r => ?_) (fun r => ?_) (fun d k => ?_) (fun d k => ?_)
    all_goals pointwise
  | 7 =>
    show out7 c i x0 x1 x2 xt0 (ix2 d l) = _
    unfold out7
    refine batch_spec c i x0 x1 x2 xt0 7 _ _ _ _ _ d l (word_at c i xt0 7 7#32 rfl _) (fun r => ?_) (fun r => ?_) (fun d k => ?_) (fun d k => ?_)
    all_goals pointwise

end Cert.KernelIdeal.Gen
end
-- ==== Proof.Array.lean ====
module

public import proofs.«01_k».proof.Proof.Outs
public import Idealize.ShloMosaic.Lib.Pipeline.ValueKit.Geometry

@[expose] public section

set_option maxRecDepth 65536

noncomputable section

namespace Cert.KernelIdeal.Gen

open Idealize.ShloMosaic Idealize.ShloMosaic.TcCoe Idealize.ShloMosaic.Tactic
open Idealize.SL Idealize.SL.Sem
open Idealize.ShloMosaic.Pointwise
open Idealize.ShloMosaic.Pipeline (Dat)

/-! # The three result arrays after the run -/

section blocks

variable (c : Dev nD) (i : grid0.Coords)
    (x0 : Vec Ideal S2x192x384 .bf16) (x1 : Vec Ideal S8x128x144 .bf16) (x2 : Vec Ideal S768x256 .bf16)
    (x3 : Vec Ideal S256x256 .f32) (x4 : Vec Ideal S256x256 .bf16) (x5 x6 : Vec Ideal S256x128 .f32) (xt0 : TbBuf0 (F := Ideal) c tbM0_0)

/-- The attention output of a block's batch and query, over the 128 channels. -/
def blockOut (b : Fin 8) (l : Fin 256) : Fin 128 → EReal :=
  Spec.out ((xt0 : S160.Idx → BitVec 32) (ix1 ⟨8 * (i 0).val + b.val, row_lt i b⟩))
    (fun g r k => x0 (ix3 g ⟨24 * b.val + r.val, by omega⟩ k)) (fun k => x2 (ix2 k l)) (fun d k => x1 (ix3 b d k))

theorem outs_col (b : Fin 8) (l : Fin 256) : (fun d => outs c i x0 x1 x2 xt0 b (ix2 d l)) = blockOut c i x0 x1 x2 xt0 b l :=
  funext fun d => outs_at c i x0 x1 x2 xt0 b d l

/-- What the codes' block holds. -/
def codesVal (y : S8x256x128.Idx) : EReal := Quant.code (blockOut c i x0 x1 x2 xt0 (y 0) (y 1)) (y 2)
/-- What the scales' block holds. -/
def scaleVal (y : S8x256.Idx) : EReal := Quant.scaleOf (blockOut c i x0 x1 x2 xt0 (y 0) (y 1))
/-- What the image's block holds. -/
def imageVal (y : S8x256x256.Idx) : EReal :=
  Quant.image (fun e k => x4 (ix2 e k)) (fun e => x3 (ix2 e (y 1))) (fun e => x5 (ix2 e ⟨(y 1).val % 128, Nat.mod_lt _ (by decide)⟩))
    (fun e => x6 (ix2 e ⟨(y 1).val % 128, Nat.mod_lt _ (by decide)⟩)) (blockOut c i x0 x1 x2 xt0 (y 0) (y 1)) (y 2)

theorem codes_ix (b : Fin 8) (u : Fin 1) (l : Fin 256) (d : Fin 128) :
    codesBlock (outs c i x0 x1 x2 xt0 b) (ix3 u l d) = codesVal c i x0 x1 x2 xt0 (ix3 b l d) :=
  (codesBlock_at _ u d l).trans (congrArg (fun f => Quant.code f d) (outs_col c i x0 x1 x2 xt0 b l))

theorem scale_ix (b : Fin 8) (l : Fin 256) :
    scales (outs c i x0 x1 x2 xt0 b) (ix2 0 l) = scaleVal c i x0 x1 x2 xt0 (ix2 b l) :=
  (scales_at _ l).trans (congrArg Quant.scaleOf (outs_col c i x0 x1 x2 xt0 b l))

theorem image_ix (b : Fin 8) (u : Fin 1) (l e : Fin 256) :
    imageBlock (project (outs c i x0 x1 x2 xt0 b) x4 x3) x5 x6 (ix3 u l e)
      = imageVal c i x0 x1 x2 x3 x4 x5 x6 xt0 (ix3 b l e) :=
  (imageBlock_at _ _ _ _ _ u l e).trans (congrArg (fun f => Quant.image _ _ _ _ f e) (outs_col c i x0 x1 x2 xt0 b l))

theorem codes_piece (b : Fin 8) (inb) (x : (Rect.unit (s := S8x256x128) ![b.val, 0, 0] S1x256x128.size inb).shape.Idx) :
    codesBlock (outs c i x0 x1 x2 xt0 b) x = codesVal c i x0 x1 x2 xt0 ((Rect.unit (s := S8x256x128) ![b.val, 0, 0] S1x256x128.size inb).emb x) := by
  have h0 : (x 0).val < 1 := (x 0).isLt
  have e : (Rect.unit (s := S8x256x128) ![b.val, 0, 0] S1x256x128.size inb).emb x = (ix3 b (x 1 : Fin 256) (x 2 : Fin 128) : S8x256x128.Idx) := by
    funext a
    refine Fin.ext ?_
    rw [ValueKit.rect_emb_unit_val]
    fin_cases a
    · show b.val + (x 0).val = b.val; omega
    · show 0 + (x 1).val = (x 1).val; omega
    · show 0 + (x 2).val = (x 2).val; omega
  exact (congrArg (codesBlock (outs c i x0 x1 x2 xt0 b)) (eq_ix3 (x : S1x256x128.Idx))).trans
    ((codes_ix c i x0 x1 x2 xt0 b (x 0) (x 1) (x 2)).trans (congrArg (codesVal c i x0 x1 x2 xt0) e).symm)

theorem scale_piece (b : Fin 8) (o) (ho : outs c i x0 x1 x2 xt0 b = o) (inb) (x : (Rect.unit (s := S8x256) ![b.val, 0] S1x256.size inb).shape.Idx) :
    scales o x = scaleVal c i x0 x1 x2 xt0 ((Rect.unit (s := S8x256) ![b.val, 0] S1x256.size inb).emb x)   := by
  subst ho
  have h0 : (x 0).val < 1 := (x 0).isLt
  have e : (Rect.unit (s := S8x256) ![b.val, 0] S1x256.size inb).emb x = (ix2 b (x 1 : Fin 256) : S8x256.Idx) := by
    funext a
    refine Fin.ext ?_
    rw [ValueKit.rect_emb_unit_val]
    fin_cases a
    · show b.val + (x 0).val = b.val; omega
    · show 0 + (x 1).val = (x 1).val; omega
  have hx : (x : S1x256.Idx) = ix2 (0 : Fin 1) (x 1 : Fin 256) := by
    funext a
    fin_cases a
    · exact Fin.ext (by show (x 0).val = 0; omega)
    · rfl
  exact (congrArg (scales (outs c i x0 x1 x2 xt0 b)) hx).trans
    ((scale_ix c i x0 x1 x2 xt0 b (x 1)).trans (congrArg (scaleVal c i x0 x1 x2 xt0) e).symm)

theorem image_piece (b : Fin 8) (inb) (x : (Rect.unit (s := S8x256x256) ![b.val, 0, 0] S1x256x256.size inb).shape.Idx) :
    imageBlock (project (outs c i x0 x1 x2 xt0 b) (View.ld x4 (Rect.unit ![0, 0] S256x256.size inb_S256x256_S256x256_0_0)) (View.ld x3 (Rect.unit ![0, 0] S256x256.size inb_S256x256_S256x256_0_0))) (View.ld x5 (Rect.unit ![0, 0] S256x128.size inb_S256x128_S256x128_0_0)) (View.ld x6 (Rect.unit ![0, 0] S256x128.size inb_S256x128_S256x128_0_0)) x
      = imageVal c i x0 x1 x2 x3 x4 x5 x6 xt0 ((Rect.unit (s := S8x256x256) ![b.val, 0, 0] S1x256x256.size inb).emb x) := by
  have hz : (![0, 0] : Fin 2 → Nat) = fun _ => 0 := funext fun a => by fin_cases a <;> rfl
  rw [View.ld_unit_zero hz, View.ld_unit_zero hz, View.ld_unit_zero hz, View.ld_unit_zero hz]
  have h0 : (x 0).val < 1 := (x 0).isLt
  have e : (Rect.unit (s := S8x256x256) ![b.val, 0, 0] S1x256x256.size inb).emb x = (ix3 b (x 1 : Fin 256) (x 2 : Fin 256) : S8x256x256.Idx) := by
    funext a
    refine Fin.ext ?_
    rw [ValueKit.rect_emb_unit_val]
    fin_cases a
    · show b.val + (x 0).val = b.val; omega
    · show 0 + (x 1).val = (x 1).val; omega
    · show 0 + (x 2).val = (x 2).val; omega
  exact (congrArg (imageBlock (project (outs c i x0 x1 x2 xt0 b) x4 x3) x5 x6) (eq_ix3 (x : S1x256x256.Idx))).trans
    ((image_ix c i x0 x1 x2 x3 x4 x5 x6 xt0 b (x 0) (x 1) (x 2)).trans (congrArg (imageVal c i x0 x1 x2 x3 x4 x5 x6 xt0) e).symm)

variable (arg3 : Memref sig .tc .vmem S2x192x384 .bf16) (harg3 : arg3.IsWhole) (arg4 : Memref sig .tc .vmem S8x128x144 .bf16) (harg4 : arg4.IsWhole) (arg5 : Memref sig .tc .vmem S768x256 .bf16) (harg5 : arg5.IsWhole) (arg6 : Memref sig .tc .vmem S256x256 .f32) (harg6 : arg6.IsWhole) (arg7 : Memref sig .tc .vmem S256x256 .bf16) (harg7 : arg7.IsWhole) (arg8 : Memref sig .tc .vmem S256x128 .f32) (harg8 : arg8.IsWhole) (arg9 : Memref sig .tc .vmem S256x128 .f32) (harg9 : arg9.IsWhole) (arg10 : Memref sig .tc .vmem S8x256x256 .bf16) (harg10 : arg10.IsWhole) (arg11 : Memref sig .tc .vmem S8x256x128 .fp8e4m3) (harg11 : arg11.IsWhole) (arg12 : Memref sig .tc .vmem S8x256 .f32) (harg12 : arg12.IsWhole)

theorem out8_eq : out0_A_8 c i arg3 harg3 arg4 harg4 arg5 harg5 arg6 harg6 arg7 harg7 arg8 harg8 arg9 harg9 arg10 harg10 arg11 harg11 arg12 harg12 x0 x1 x2 x3 x4 x5 x6 xt0 = codesVal c i x0 x1 x2 xt0 := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 x0 x1 x2 x3 x4 x5 x6 xt0)]
  funext y
  refine View.canon_apply_of_pieces (codesVal c i x0 x1 x2 xt0) _ ?_ y (cover0_A_8 c i arg3 harg3 arg4 harg4 arg5 harg5 arg6 harg6 arg7 harg7 arg8 harg8 arg9 harg9 arg10 harg10 arg11 harg11 arg12 harg12 x0 x1 x2 x3 x4 x5 x6 xt0 y)
  rw [codes_pieces]
  intro p hp x
  simp only [List.mem_cons, List.not_mem_nil, or_false] at hp
  rcases hp with rfl | rfl | rfl | rfl | rfl | rfl | rfl | rfl
  · exact codes_piece c i x0 x1 x2 xt0 7 inb_S8x256x128_S1x256x128_7_0_0 x
  · exact codes_piece c i x0 x1 x2 xt0 6 inb_S8x256x128_S1x256x128_6_0_0 x
  · exact codes_piece c i x0 x1 x2 xt0 5 inb_S8x256x128_S1x256x128_5_0_0 x
  · exact codes_piece c i x0 x1 x2 xt0 4 inb_S8x256x128_S1x256x128_4_0_0 x
  · exact codes_piece c i x0 x1 x2 xt0 3 inb_S8x256x128_S1x256x128_3_0_0 x
  · exact codes_piece c i x0 x1 x2 xt0 2 inb_S8x256x128_S1x256x128_2_0_0 x
  · exact codes_piece c i x0 x1 x2 xt0 1 inb_S8x256x128_S1x256x128_1_0_0 x
  · exact codes_piece c i x0 x1 x2 xt0 0 inb_S8x256x128_S1x256x128_0_0_0 x

set_option maxHeartbeats 4000000 in
theorem out9_eq : out0_A_9 c i arg3 harg3 arg4 harg4 arg5 harg5 arg6 harg6 arg7 harg7 arg8 harg8 arg9 harg9 arg10 harg10 arg11 harg11 arg12 harg12 x0 x1 x2 x3 x4 x5 x6 xt0 = scaleVal c i x0 x1 x2 xt0 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 x0 x1 x2 x3 x4 x5 x6 xt0)]
  funext y
  refine View.canon_apply_of_pieces (scaleVal c i x0 x1 x2 xt0) _ ?_ y (cover0_A_9 c i arg3 harg3 arg4 harg4 arg5 harg5 arg6 harg6 arg7 harg7 arg8 harg8 arg9 harg9 arg10 harg10 arg11 harg11 arg12 harg12 x0 x1 x2 x3 x4 x5 x6 xt0 y)
  rw [scale_pieces]
  intro p hp x
  simp only [List.mem_cons, List.not_mem_nil, or_false] at hp
  rcases hp with rfl | rfl | rfl | rfl | rfl | rfl | rfl | rfl
  · exact scale_piece c i x0 x1 x2 xt0 7 (out7 c i x0 x1 x2 xt0) rfl inb_S8x256_S1x256_7_0 x
  · exact scale_piece c i x0 x1 x2 xt0 6 (out6 c i x0 x1 x2 xt0) rfl inb_S8x256_S1x256_6_0 x
  · exact scale_piece c i x0 x1 x2 xt0 5 (out5 c i x0 x1 x2 xt0) rfl inb_S8x256_S1x256_5_0 x
  · exact scale_piece c i x0 x1 x2 xt0 4 (out4 c i x0 x1 x2 xt0) rfl inb_S8x256_S1x256_4_0 x
  · exact scale_piece c i x0 x1 x2 xt0 3 (out3 c i x0 x1 x2 xt0) rfl inb_S8x256_S1x256_3_0 x
  · exact scale_piece c i x0 x1 x2 xt0 2 (out2 c i x0 x1 x2 xt0) rfl inb_S8x256_S1x256_2_0 x
  · exact scale_piece c i x0 x1 x2 xt0 1 (out1 c i x0 x1 x2 xt0) rfl inb_S8x256_S1x256_1_0 x
  · exact scale_piece c i x0 x1 x2 xt0 0 (out0 c i x0 x1 x2 xt0) rfl inb_S8x256_S1x256_0_0 x

theorem out7_eq : out0_A_7 c i arg3 harg3 arg4 harg4 arg5 harg5 arg6 harg6 arg7 harg7 arg8 harg8 arg9 harg9 arg10 harg10 arg11 harg11 arg12 harg12 x0 x1 x2 x3 x4 x5 x6 xt0 = imageVal c i x0 x1 x2 x3 x4 x5 x6 xt0 := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 x0 x1 x2 x3 x4 x5 x6 xt0)]
  funext y
  refine View.canon_apply_of_pieces (imageVal c i x0 x1 x2 x3 x4 x5 x6 xt0) _ ?_ y (cover0_A_7 c i arg3 harg3 arg4 harg4 arg5 harg5 arg6 harg6 arg7 harg7 arg8 harg8 arg9 harg9 arg10 harg10 arg11 harg11 arg12 harg12 x0 x1 x2 x3 x4 x5 x6 xt0 y)
  rw [image_pieces]
  intro p hp x
  simp only [List.mem_cons, List.not_mem_nil, or_false] at hp
  rcases hp with rfl | rfl | rfl | rfl | rfl | rfl | rfl | rfl
  · exact image_piece c i x0 x1 x2 x3 x4 x5 x6 xt0 7 inb_S8x256x256_S1x256x256_7_0_0 x
  · exact image_piece c i x0 x1 x2 x3 x4 x5 x6 xt0 6 inb_S8x256x256_S1x256x256_6_0_0 x
  · exact image_piece c i x0 x1 x2 x3 x4 x5 x6 xt0 5 inb_S8x256x256_S1x256x256_5_0_0 x
  · exact image_piece c i x0 x1 x2 x3 x4 x5 x6 xt0 4 inb_S8x256x256_S1x256x256_4_0_0 x
  · exact image_piece c i x0 x1 x2 x3 x4 x5 x6 xt0 3 inb_S8x256x256_S1x256x256_3_0_0 x
  · exact image_piece c i x0 x1 x2 x3 x4 x5 x6 xt0 2 inb_S8x256x256_S1x256x256_2_0_0 x
  · exact image_piece c i x0 x1 x2 x3 x4 x5 x6 xt0 1 inb_S8x256x256_S1x256x256_1_0_0 x
  · exact image_piece c i x0 x1 x2 x3 x4 x5 x6 xt0 0 inb_S8x256x256_S1x256x256_0_0_0 x

end blocks

end Cert.KernelIdeal.Gen
end
-- ==== Proof.Windows.lean ====
module

public import proofs.«01_k».proof.Proof.Array

@[expose] public section

set_option maxRecDepth 65536

noncomputable section

namespace Cert.KernelIdeal.Gen

open Idealize.ShloMosaic Idealize.ShloMosaic.TcCoe Idealize.ShloMosaic.Tactic
open Idealize.SL Idealize.SL.Sem
open Idealize.ShloMosaic.Pointwise

/-! # The three result arrays after the run -/

variable (m : (ℓ : Loc nD τ sig) → Buf (Elt Ideal) ℓ)

theorem ok : Ok m := by unfold Ok ok0; trivial

/-! Where each window's block of a grid point lies, in blocks. -/

theorem index0 (hO : Ok m) (t : Fin (cfgM m hO).N) : ((cfgM m hO).win 0).index t = ![0, (grid0.coords t 0).val, 0] := by
  revert t
  show ∀ t : Fin grid0.N, (fun a : Fin 3 => (cc0_transform_0 (grid0.coords t)) a) = ![0, (grid0.coords t 0).val, 0]
  decide +kernel

theorem index1 (hO : Ok m) (t : Fin (cfgM m hO).N) : ((cfgM m hO).win 1).index t = ![(grid0.coords t 0).val, 0, 0] := by
  revert t
  show ∀ t : Fin grid0.N, (fun a : Fin 3 => (cc0_transform_1 (grid0.coords t)) a) = ![(grid0.coords t 0).val, 0, 0]
  decide +kernel

theorem index2 (hO : Ok m) (t : Fin (cfgM m hO).N) : ((cfgM m hO).win 2).index t = ![0, (grid0.coords t 1).val] := by
  revert t
  show ∀ t : Fin grid0.N, (fun a : Fin 2 => (cc0_transform_2 (grid0.coords t)) a) = ![0, (grid0.coords t 1).val]
  decide +kernel

theorem index3 (hO : Ok m) (t : Fin (cfgM m hO).N) : ((cfgM m hO).win 3).index t = ![0, (grid0.coords t 1).val] := by
  revert t
  show ∀ t : Fin grid0.N, (fun a : Fin 2 => (cc0_transform_3 (grid0.coords t)) a) = ![0, (grid0.coords t 1).val]
  decide +kernel

theorem index4 (hO : Ok m) (t : Fin (cfgM m hO).N) : ((cfgM m hO).win 4).index t = ![0, 0] := by
  revert t
  show ∀ t : Fin grid0.N, (fun a : Fin 2 => (cc0_transform_4 (grid0.coords t)) a) = ![0, 0]
  decide +kernel

theorem index5 (hO : Ok m) (t : Fin (cfgM m hO).N) : ((cfgM m hO).win 5).index t = ![0, 0] := by
  revert t
  show ∀ t : Fin grid0.N, (fun a : Fin 2 => (cc0_transform_5 (grid0.coords t)) a) = ![0, 0]
  decide +kernel

theorem index6 (hO : Ok m) (t : Fin (cfgM m hO).N) : ((cfgM m hO).win 6).index t = ![0, 0] := by
  revert t
  show ∀ t : Fin grid0.N, (fun a : Fin 2 => (cc0_transform_6 (grid0.coords t)) a) = ![0, 0]
  decide +kernel

theorem index7 (hO : Ok m) (t : Fin (cfgM m hO).N) : ((cfgM m hO).win 7).index t = ![(grid0.coords t 0).val, (grid0.coords t 1).val, 0] := by
  revert t
  show ∀ t : Fin grid0.N, (fun a : Fin 3 => (cc0_transform_7 (grid0.coords t)) a) = ![(grid0.coords t 0).val, (grid0.coords t 1).val, 0]
  decide +kernel

theorem index8 (hO : Ok m) (t : Fin (cfgM m hO).N) : ((cfgM m hO).win 8).index t = ![(grid0.coords t 0).val, (grid0.coords t 1).val, 0] := by
  revert t
  show ∀ t : Fin grid0.N, (fun a : Fin 3 => (cc0_transform_8 (grid0.coords t)) a) = ![(grid0.coords t 0).val, (grid0.coords t 1).val, 0]
  decide +kernel

theorem index9 (hO : Ok m) (t : Fin (cfgM m hO).N) : ((cfgM m hO).win 9).index t = ![(grid0.coords t 0).val, (grid0.coords t 1).val] := by
  revert t
  show ∀ t : Fin grid0.N, (fun a : Fin 2 => (cc0_transform_9 (grid0.coords t)) a) = ![(grid0.coords t 0).val, (grid0.coords t 1).val]
  decide +kernel

/-- The grid has 20 groups of batches and 4 groups of queries. -/
theorem coord0_lt (t : Fin grid0.N) : (grid0.coords t 0).val < 20 := (grid0.coords t 0).isLt
theorem coord1_lt (t : Fin grid0.N) : (grid0.coords t 1).val < 4 := (grid0.coords t 1).isLt

/-! Where an element of a block lies in its array. -/

theorem emb0 (hO : Ok m) (t : Fin (cfgM m hO).N) (g : Fin 2) (r : Fin 192) (k : Fin 384) :
    ((((cfgM m hO).win 0).blk t).view.emb (ix3 g r k : S2x192x384.Idx) : S2x3840x384.Idx) = ix3 g ⟨192 * (grid0.coords t 0).val + r.val, by have := coord0_lt t; omega⟩ k := by
  have e0 := congrFun (index0 m hO t) (0 : Fin 3)
  have e1 := congrFun (index0 m hO t) (1 : Fin 3)
  have e2 := congrFun (index0 m hO t) (2 : Fin 3)
  funext a
  refine Fin.ext ?_
  refine (ValueKit.view_emb_slice_whole_unit_val _ _ _ _ _ _).trans ?_
  fin_cases a
  · refine (congrArg (fun x => x * 2 + g.val) e0).trans ?_
    show 0 * 2 + g.val = g.val; omega
  · refine (congrArg (fun x => x * 192 + r.val) e1).trans ?_
    show (grid0.coords t 0).val * 192 + r.val = 192 * (grid0.coords t 0).val + r.val; omega
  · refine (congrArg (fun x => x * 384 + k.val) e2).trans ?_
    show 0 * 384 + k.val = k.val; omega

theorem emb1 (hO : Ok m) (t : Fin (cfgM m hO).N) (b : Fin 8) (d : Fin 128) (k : Fin 144) :
    ((((cfgM m hO).win 1).blk t).view.emb (ix3 b d k : S8x128x144.Idx) : S160x128x144.Idx) = ix3 ⟨8 * (grid0.coords t 0).val + b.val, by have := coord0_lt t; omega⟩ d k := by
  have e0 := congrFun (index1 m hO t) (0 : Fin 3)
  have e1 := congrFun (index1 m hO t) (1 : Fin 3)
  have e2 := congrFun (index1 m hO t) (2 : Fin 3)
  funext a
  refine Fin.ext ?_
  refine (ValueKit.view_emb_slice_whole_unit_val _ _ _ _ _ _).trans ?_
  fin_cases a
  · refine (congrArg (fun x => x * 8 + b.val) e0).trans ?_
    show (grid0.coords t 0).val * 8 + b.val = 8 * (grid0.coords t 0).val + b.val; omega
  · refine (congrArg (fun x => x * 128 + d.val) e1).trans ?_
    show 0 * 128 + d.val = d.val; omega
  · refine (congrArg (fun x => x * 144 + k.val) e2).trans ?_
    show 0 * 144 + k.val = k.val; omega

theorem emb2 (hO : Ok m) (t : Fin (cfgM m hO).N) (k : Fin 768) (l : Fin 256) :
    ((((cfgM m hO).win 2).blk t).view.emb (ix2 k l : S768x256.Idx) : S768x1024.Idx) = ix2 k ⟨256 * (grid0.coords t 1).val + l.val, by have := coord1_lt t; omega⟩ := by
  have e0 := congrFun (index2 m hO t) (0 : Fin 2)
  have e1 := congrFun (index2 m hO t) (1 : Fin 2)
  funext a
  refine Fin.ext ?_
  refine (ValueKit.view_emb_slice_whole_unit_val _ _ _ _ _ _).trans ?_
  fin_cases a
  · refine (congrArg (fun x => x * 768 + k.val) e0).trans ?_
    show 0 * 768 + k.val = k.val; omega
  · refine (congrArg (fun x => x * 256 + l.val) e1).trans ?_
    show (grid0.coords t 1).val * 256 + l.val = 256 * (grid0.coords t 1).val + l.val; omega

theorem emb3 (hO : Ok m) (t : Fin (cfgM m hO).N) (e : Fin 256) (l : Fin 256) :
    ((((cfgM m hO).win 3).blk t).view.emb (ix2 e l : S256x256.Idx) : S256x1024.Idx) = ix2 e ⟨256 * (grid0.coords t 1).val + l.val, by have := coord1_lt t; omega⟩ := by
  have e0 := congrFun (index3 m hO t) (0 : Fin 2)
  have e1 := congrFun (index3 m hO t) (1 : Fin 2)
  funext a
  refine Fin.ext ?_
  refine (ValueKit.view_emb_slice_whole_unit_val _ _ _ _ _ _).trans ?_
  fin_cases a
  · refine (congrArg (fun x => x * 256 + e.val) e0).trans ?_
    show 0 * 256 + e.val = e.val; omega
  · refine (congrArg (fun x => x * 256 + l.val) e1).trans ?_
    show (grid0.coords t 1).val * 256 + l.val = 256 * (grid0.coords t 1).val + l.val; omega

theorem emb4 (hO : Ok m) (t : Fin (cfgM m hO).N) (e : Fin 256) (k : Fin 256) :
    ((((cfgM m hO).win 4).blk t).view.emb (ix2 e k : S256x256.Idx) : S256x256.Idx) = ix2 e k := by
  have e0 := congrFun (index4 m hO t) (0 : Fin 2)
  have e1 := congrFun (index4 m hO t) (1 : Fin 2)
  funext a
  refine Fin.ext ?_
  refine (ValueKit.view_emb_slice_whole_unit_val _ _ _ _ _ _).trans ?_
  fin_cases a
  · refine (congrArg (fun x => x * 256 + e.val) e0).trans ?_
    show 0 * 256 + e.val = e.val; omega
  · refine (congrArg (fun x => x * 256 + k.val) e1).trans ?_
    show 0 * 256 + k.val = k.val; omega

theorem emb5 (hO : Ok m) (t : Fin (cfgM m hO).N) (e : Fin 256) (l : Fin 128) :
    ((((cfgM m hO).win 5).blk t).view.emb (ix2 e l : S256x128.Idx) : S256x128.Idx) = ix2 e l := by
  have e0 := congrFun (index5 m hO t) (0 : Fin 2)
  have e1 := congrFun (index5 m hO t) (1 : Fin 2)
  funext a
  refine Fin.ext ?_
  refine (ValueKit.view_emb_slice_whole_unit_val _ _ _ _ _ _).trans ?_
  fin_cases a
  · refine (congrArg (fun x => x * 256 + e.val) e0).trans ?_
    show 0 * 256 + e.val = e.val; omega
  · refine (congrArg (fun x => x * 128 + l.val) e1).trans ?_
    show 0 * 128 + l.val = l.val; omega

theorem emb6 (hO : Ok m) (t : Fin (cfgM m hO).N) (e : Fin 256) (l : Fin 128) :
    ((((cfgM m hO).win 6).blk t).view.emb (ix2 e l : S256x128.Idx) : S256x128.Idx) = ix2 e l := by
  have e0 := congrFun (index6 m hO t) (0 : Fin 2)
  have e1 := congrFun (index6 m hO t) (1 : Fin 2)
  funext a
  refine Fin.ext ?_
  refine (ValueKit.view_emb_slice_whole_unit_val _ _ _ _ _ _).trans ?_
  fin_cases a
  · refine (congrArg (fun x => x * 256 + e.val) e0).trans ?_
    show 0 * 256 + e.val = e.val; omega
  · refine (congrArg (fun x => x * 128 + l.val) e1).trans ?_
    show 0 * 128 + l.val = l.val; omega

theorem emb7 (hO : Ok m) (t : Fin (cfgM m hO).N) (b : Fin 8) (l : Fin 256) (e : Fin 256) :
    ((((cfgM m hO).win 7).blk t).view.emb (ix3 b l e : S8x256x256.Idx) : S160x1024x256.Idx) = ix3 ⟨8 * (grid0.coords t 0).val + b.val, by have := coord0_lt t; omega⟩ ⟨256 * (grid0.coords t 1).val + l.val, by have := coord1_lt t; omega⟩ e := by
  have e0 := congrFun (index7 m hO t) (0 : Fin 3)
  have e1 := congrFun (index7 m hO t) (1 : Fin 3)
  have e2 := congrFun (index7 m hO t) (2 : Fin 3)
  funext a
  refine Fin.ext ?_
  refine (ValueKit.view_emb_slice_whole_unit_val _ _ _ _ _ _).trans ?_
  fin_cases a
  · refine (congrArg (fun x => x * 8 + b.val) e0).trans ?_
    show (grid0.coords t 0).val * 8 + b.val = 8 * (grid0.coords t 0).val + b.val; omega
  · refine (congrArg (fun x => x * 256 + l.val) e1).trans ?_
    show (grid0.coords t 1).val * 256 + l.val = 256 * (grid0.coords t 1).val + l.val; omega
  · refine (congrArg (fun x => x * 256 + e.val) e2).trans ?_
    show 0 * 256 + e.val = e.val; omega

theorem emb8 (hO : Ok m) (t : Fin (cfgM m hO).N) (b : Fin 8) (l : Fin 256) (d : Fin 128) :
    ((((cfgM m hO).win 8).blk t).view.emb (ix3 b l d : S8x256x128.Idx) : S160x1024x128.Idx) = ix3 ⟨8 * (grid0.coords t 0).val + b.val, by have := coord0_lt t; omega⟩ ⟨256 * (grid0.coords t 1).val + l.val, by have := coord1_lt t; omega⟩ d := by
  have e0 := congrFun (index8 m hO t) (0 : Fin 3)
  have e1 := congrFun (index8 m hO t) (1 : Fin 3)
  have e2 := congrFun (index8 m hO t) (2 : Fin 3)
  funext a
  refine Fin.ext ?_
  refine (ValueKit.view_emb_slice_whole_unit_val _ _ _ _ _ _).trans ?_
  fin_cases a
  · refine (congrArg (fun x => x * 8 + b.val) e0).trans ?_
    show (grid0.coords t 0).val * 8 + b.val = 8 * (grid0.coords t 0).val + b.val; omega
  · refine (congrArg (fun x => x * 256 + l.val) e1).trans ?_
    show (grid0.coords t 1).val * 256 + l.val = 256 * (grid0.coords t 1).val + l.val; omega
  · refine (congrArg (fun x => x * 128 + d.val) e2).trans ?_
    show 0 * 128 + d.val = d.val; omega

theorem emb9 (hO : Ok m) (t : Fin (cfgM m hO).N) (b : Fin 8) (l : Fin 256) :
    ((((cfgM m hO).win 9).blk t).view.emb (ix2 b l : S8x256.Idx) : S160x1024.Idx) = ix2 ⟨8 * (grid0.coords t 0).val + b.val, by have := coord0_lt t; omega⟩ ⟨256 * (grid0.coords t 1).val + l.val, by have := coord1_lt t; omega⟩ := by
  have e0 := congrFun (index9 m hO t) (0 : Fin 2)
  have e1 := congrFun (index9 m hO t) (1 : Fin 2)
  funext a
  refine Fin.ext ?_
  refine (ValueKit.view_emb_slice_whole_unit_val _ _ _ _ _ _).trans ?_
  fin_cases a
  · refine (congrArg (fun x => x * 8 + b.val) e0).trans ?_
    show (grid0.coords t 0).val * 8 + b.val = 8 * (grid0.coords t 0).val + b.val; omega
  · refine (congrArg (fun x => x * 256 + l.val) e1).trans ?_
    show (grid0.coords t 1).val * 256 + l.val = 256 * (grid0.coords t 1).val + l.val; omega

end Cert.KernelIdeal.Gen
end
-- ==== Proof.Result.lean ====
module

public import proofs.«01_k».proof.Proof.Windows

@[expose] public section

set_option maxRecDepth 65536

noncomputable section

namespace Cert.KernelIdeal.Gen

open Idealize.ShloMosaic Idealize.ShloMosaic.TcCoe Idealize.ShloMosaic.Tactic
open Idealize.SL Idealize.SL.Sem
open Idealize.ShloMosaic.Pointwise

/-! # The three result arrays after the run -/

variable (m : (ℓ : Loc nD τ sig) → Buf (Elt Ideal) ℓ) (hO : Ok m) (c : Dev nD)

/-- The arguments, read at plain indices. -/
def argN (B : Fin 160) : BitVec 32 := (m ((c.tc : Thread nD τ).loc main_arg0) : S160.Idx → BitVec 32) (ix1 B)
def argK (g : Fin 2) (r : Fin 3840) (k : Fin 384) : EReal := (m ((c.tc : Thread nD τ).loc main_arg1) : S2x3840x384.Idx → EReal) (ix3 g r k)
def argV (B : Fin 160) (d : Fin 128) (k : Fin 144) : EReal := (m ((c.tc : Thread nD τ).loc main_arg2) : S160x128x144.Idx → EReal) (ix3 B d k)
def argQ (k : Fin 768) (S : Fin 1024) : EReal := (m ((c.tc : Thread nD τ).loc main_arg3) : S768x1024.Idx → EReal) (ix2 k S)
def argX (e : Fin 256) (S : Fin 1024) : EReal := (m ((c.tc : Thread nD τ).loc main_arg4) : S256x1024.Idx → EReal) (ix2 e S)
def argW (e k : Fin 256) : EReal := (m ((c.tc : Thread nD τ).loc main_arg5) : S256x256.Idx → EReal) (ix2 e k)
def argG (e : Fin 256) (l : Fin 128) : EReal := (m ((c.tc : Thread nD τ).loc main_arg6) : S256x128.Idx → EReal) (ix2 e l)
def argB (e : Fin 256) (l : Fin 128) : EReal := (m ((c.tc : Thread nD τ).loc main_arg7) : S256x128.Idx → EReal) (ix2 e l)

/-- The attention of the launched arguments. -/
def attn : Fin 160 → Fin 1024 → Fin 128 → EReal := Spec.attention (argN m c) (argK m c) (argV m c) (argQ m c)

/-- The batch and the query of an element of a grid point's block. -/
def batchOf (t : Fin grid0.N) (b : Fin 8) : Fin 160 := ⟨8 * (grid0.coords t 0).val + b.val, by have := coord0_lt t; omega⟩
def queryOf (t : Fin grid0.N) (l : Fin 256) : Fin 1024 := ⟨256 * (grid0.coords t 1).val + l.val, by have := coord1_lt t; omega⟩

/-- A grid point's attention output is the attention of the arguments at its batches and queries. -/
theorem blockOut_eq (t : Fin (cfgM m hO).N) (b : Fin 8) (l : Fin 256) :
    blockOut c (grid0.coords t) (iblk m hO c 0 t) (iblk m hO c 1 t) (iblk m hO c 2 t) (tbl m 0) b l
      = attn m c (batchOf t b) (queryOf t l) := by
  have h1 : (fun (g : Fin 2) (r : Fin 24) (k : Fin 384) => (iblk m hO c 0 t : Vec Ideal S2x192x384 .bf16) (ix3 g ⟨24 * b.val + r.val, by omega⟩ k))
      = fun g r k => argK m c g ⟨24 * (batchOf t b).val + r.val, by have := (batchOf t b).isLt; omega⟩ k := by
    funext g r k
    refine (congrArg (m ((c.tc : Thread nD τ).loc main_arg1) : S2x3840x384.Idx → EReal) (emb0 m hO t g _ k)).trans ?_
    refine congrArg (fun r => argK m c g r k) (Fin.ext ?_)
    show 192 * _ + (24 * b.val + r.val) = 24 * (8 * _ + b.val) + r.val
    omega
  have h2 : (fun k => (iblk m hO c 2 t : Vec Ideal S768x256 .bf16) (ix2 k l)) = fun k => argQ m c k (queryOf t l) :=
    funext fun k => congrArg (m ((c.tc : Thread nD τ).loc main_arg3) : S768x1024.Idx → EReal) (emb2 m hO t k l)
  have h3 : (fun d k => (iblk m hO c 1 t : Vec Ideal S8x128x144 .bf16) (ix3 b d k)) = argV m c (batchOf t b) :=
    funext fun d => funext fun k => congrArg (m ((c.tc : Thread nD τ).loc main_arg2) : S160x128x144.Idx → EReal) (emb1 m hO t b d k)
  unfold blockOut attn Spec.attention
  rw [h1, h2, h3]
  have hc : c = 0 := Subsingleton.elim _ _
  subst hc
  rfl

/-- The codes after the run. -/
def codesRes (y : S160x1024x128.Idx) : EReal := Quant.code (attn m c (y 0) (y 1)) (y 2)
/-- The scales after the run. -/
def scaleRes (y : S160x1024.Idx) : EReal := Quant.scaleOf (attn m c (y 0) (y 1))
/-- The image after the run. -/
def imageRes (y : S160x1024x256.Idx) : EReal :=
  Spec.image (argN m c) (argK m c) (argV m c) (argQ m c) (argW m c) (argX m c) (argG m c) (argB m c) (y 0) (y 1) (y 2)

/-- Every pair of a group of batches and a group of queries is a grid point. -/
theorem point_of : ∀ (p : Fin 20) (q : Fin 4), ∃ t : Fin grid0.N, (grid0.coords t 0).val = p.val ∧ (grid0.coords t 1).val = q.val := by
  decide +kernel

/-- Every batch and query lies in some grid point's block. -/
theorem point_at (B : Fin 160) (S : Fin 1024) : ∃ (t : Fin grid0.N) (b : Fin 8) (l : Fin 256), batchOf t b = B ∧ queryOf t l = S := by
  obtain ⟨t, h0, h1⟩ := point_of ⟨B.val / 8, by omega⟩ ⟨S.val / 256, by omega⟩
  refine ⟨t, ⟨B.val % 8, by omega⟩, ⟨S.val % 256, by omega⟩, Fin.ext ?_, Fin.ext ?_⟩
  · show 8 * (grid0.coords t 0).val + B.val % 8 = B.val
    rw [h0]; show 8 * (B.val / 8) + B.val % 8 = B.val; omega
  · show 256 * (grid0.coords t 1).val + S.val % 256 = S.val
    rw [h1]; show 256 * (S.val / 256) + S.val % 256 = S.val; omega

/-- Every index of rank three or two is its coordinates. -/
theorem coords3 {a b c : Nat} (y : (⟨3, ![a, b, c]⟩ : Shape).Idx) : ∃ (p : Fin a) (q : Fin b) (r : Fin c), y = ix3 p q r :=
  ⟨y 0, y 1, y 2, eq_ix3 y⟩
theorem coords2 {a b : Nat} (y : (⟨2, ![a, b]⟩ : Shape).Idx) : ∃ (p : Fin a) (q : Fin b), y = ix2 p q :=
  ⟨y 0, y 1, eq_ix2 y⟩

/-! What the body leaves in each result's block at a grid point. -/

theorem after7_val (t : Fin (cfgM m hO).N) : (dats m hO 0 c).after 7 t = imageVal c (grid0.coords t) (iblk m hO c 0 t) (iblk m hO c 1 t) (iblk m hO c 2 t) (iblk m hO c 3 t) (iblk m hO c 4 t) (iblk m hO c 5 t) (iblk m hO c 6 t) (tbl m 0) := by
  rw [after0_7]
  unfold outsAt0
  dsimp only
  exact out7_eq (c := c) (i := grid0.coords t) (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := ms0_5 m hO t) (harg8 := hs0_5 m hO t) (arg9 := ms0_6 m hO t) (harg9 := hs0_6 m hO t) (arg10 := ms0_7 m hO t) (harg10 := hs0_7 m hO t) (arg11 := ms0_8 m hO t) (harg11 := hs0_8 m hO t) (arg12 := ms0_9 m hO t) (harg12 := hs0_9 m hO t) (x0 := iblk m hO c 0 t) (x1 := iblk m hO c 1 t) (x2 := iblk m hO c 2 t) (x3 := iblk m hO c 3 t) (x4 := iblk m hO c 4 t) (x5 := iblk m hO c 5 t) (x6 := iblk m hO c 6 t) (xt0 := tbl m 0)

theorem after8_val (t : Fin (cfgM m hO).N) : (dats m hO 0 c).after 8 t = codesVal c (grid0.coords t) (iblk m hO c 0 t) (iblk m hO c 1 t) (iblk m hO c 2 t) (tbl m 0) := by
  rw [after0_8]
  unfold outsAt0
  dsimp only
  exact out8_eq (c := c) (i := grid0.coords t) (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := ms0_5 m hO t) (harg8 := hs0_5 m hO t) (arg9 := ms0_6 m hO t) (harg9 := hs0_6 m hO t) (arg10 := ms0_7 m hO t) (harg10 := hs0_7 m hO t) (arg11 := ms0_8 m hO t) (harg11 := hs0_8 m hO t) (arg12 := ms0_9 m hO t) (harg12 := hs0_9 m hO t) (x0 := iblk m hO c 0 t) (x1 := iblk m hO c 1 t) (x2 := iblk m hO c 2 t) (x3 := iblk m hO c 3 t) (x4 := iblk m hO c 4 t) (x5 := iblk m hO c 5 t) (x6 := iblk m hO c 6 t) (xt0 := tbl m 0)

theorem after9_val (t : Fin (cfgM m hO).N) : (dats m hO 0 c).after 9 t = scaleVal c (grid0.coords t) (iblk m hO c 0 t) (iblk m hO c 1 t) (iblk m hO c 2 t) (tbl m 0) := by
  rw [after0_9]
  unfold outsAt0
  dsimp only
  exact out9_eq (c := c) (i := grid0.coords t) (arg3 := ms0_0 m hO t) (harg3 := hs0_0 m hO t) (arg4 := ms0_1 m hO t) (harg4 := hs0_1 m hO t) (arg5 := ms0_2 m hO t) (harg5 := hs0_2 m hO t) (arg6 := ms0_3 m hO t) (harg6 := hs0_3 m hO t) (arg7 := ms0_4 m hO t) (harg7 := hs0_4 m hO t) (arg8 := ms0_5 m hO t) (harg8 := hs0_5 m hO t) (arg9 := ms0_6 m hO t) (harg9 := hs0_6 m hO t) (arg10 := ms0_7 m hO t) (harg10 := hs0_7 m hO t) (arg11 := ms0_8 m hO t) (harg11 := hs0_8 m hO t) (arg12 := ms0_9 m hO t) (harg12 := hs0_9 m hO t) (x0 := iblk m hO c 0 t) (x1 := iblk m hO c 1 t) (x2 := iblk m hO c 2 t) (x3 := iblk m hO c 3 t) (x4 := iblk m hO c 4 t) (x5 := iblk m hO c 5 t) (x6 := iblk m hO c 6 t) (xt0 := tbl m 0)

theorem codes_final : (dats m hO 0 c).arrAt 8 (cfgM m hO).N = codesRes m c := by
  refine (dats m hO 0 c).arrAt_eq_of_emb 8 _ (fun t hf y => ?_) fun i => ?_
  · obtain ⟨b, l, d, rfl⟩ := coords3 y
    refine Eq.trans ?_ (congrArg (codesRes m c) (emb8 m hO t b l d)).symm
    refine (congrFun (after8_val m hO c t) _).trans ?_
    exact congrArg (fun f => Quant.code f d) (blockOut_eq m hO c t b l)
  · obtain ⟨B, S, d, rfl⟩ := coords3 i
    obtain ⟨t, b, l, rfl, rfl⟩ := point_at B S
    refine ⟨t, flush0_8 _ t, ?_⟩
    exact emb8 m hO t b l d ▸ View.emb_mem_set _ _

theorem scale_final : (dats m hO 0 c).arrAt 9 (cfgM m hO).N = scaleRes m c := by
  refine (dats m hO 0 c).arrAt_eq_of_emb 9 _ (fun t hf y => ?_) fun i => ?_
  · obtain ⟨b, l, rfl⟩ := coords2 y
    refine Eq.trans ?_ (congrArg (scaleRes m c) (emb9 m hO t b l)).symm
    refine (congrFun (after9_val m hO c t) _).trans ?_
    exact congrArg Quant.scaleOf (blockOut_eq m hO c t b l)
  · obtain ⟨B, S, rfl⟩ := coords2 i
    obtain ⟨t, b, l, rfl, rfl⟩ := point_at B S
    refine ⟨t, flush0_9 _ t, ?_⟩
    exact emb9 m hO t b l ▸ View.emb_mem_set _ _

theorem image_final : (dats m hO 0 c).arrAt 7 (cfgM m hO).N = imageRes m c := by
  refine (dats m hO 0 c).arrAt_eq_of_emb 7 _ (fun t hf y => ?_) fun i => ?_
  · obtain ⟨b, l, d, rfl⟩ := coords3 y
    refine Eq.trans ?_ (congrArg (imageRes m c) (emb7 m hO t b l d)).symm
    refine (congrFun (after7_val m hO c t) _).trans ?_
    have h4 : (fun e k => (iblk m hO c 4 t : Vec Ideal S256x256 .bf16) (ix2 e k)) = argW m c :=
      funext fun e => funext fun k => congrArg (m ((c.tc : Thread nD τ).loc main_arg5) : S256x256.Idx → EReal) (emb4 m hO t e k)
    have h3 : (fun e => (iblk m hO c 3 t : Vec Ideal S256x256 .f32) (ix2 e l)) = fun e => argX m c e (queryOf t l) :=
      funext fun e => congrArg (m ((c.tc : Thread nD τ).loc main_arg4) : S256x1024.Idx → EReal) (emb3 m hO t e l)
    have hq : (⟨l.val % 128, Nat.mod_lt _ (by decide)⟩ : Fin 128) = ⟨(queryOf t l).val % 128, Nat.mod_lt _ (by decide)⟩ := Fin.ext (by
      show l.val % 128 = (256 * (grid0.coords t 1).val + l.val) % 128; omega)
    have h5 : (fun e => (iblk m hO c 5 t : Vec Ideal S256x128 .f32) (ix2 e ⟨l.val % 128, Nat.mod_lt _ (by decide)⟩))
        = fun e => argG m c e ⟨(queryOf t l).val % 128, Nat.mod_lt _ (by decide)⟩ :=
      funext fun e => (congrArg (m ((c.tc : Thread nD τ).loc main_arg6) : S256x128.Idx → EReal) (emb5 m hO t e _)).trans (congrArg (argG m c e) hq)
    have h6 : (fun e => (iblk m hO c 6 t : Vec Ideal S256x128 .f32) (ix2 e ⟨l.val % 128, Nat.mod_lt _ (by decide)⟩))
        = fun e => argB m c e ⟨(queryOf t l).val % 128, Nat.mod_lt _ (by decide)⟩ :=
      funext fun e => (congrArg (m ((c.tc : Thread nD τ).loc main_arg7) : S256x128.Idx → EReal) (emb6 m hO t e _)).trans (congrArg (argB m c e) hq)
    show Quant.image (fun e k => (iblk m hO c 4 t : Vec Ideal S256x256 .bf16) (ix2 e k)) (fun e => (iblk m hO c 3 t : Vec Ideal S256x256 .f32) (ix2 e l))
      (fun e => (iblk m hO c 5 t : Vec Ideal S256x128 .f32) (ix2 e ⟨l.val % 128, Nat.mod_lt _ (by decide)⟩))
      (fun e => (iblk m hO c 6 t : Vec Ideal S256x128 .f32) (ix2 e ⟨l.val % 128, Nat.mod_lt _ (by decide)⟩))
      (blockOut c (grid0.coords t) (iblk m hO c 0 t) (iblk m hO c 1 t) (iblk m hO c 2 t) (tbl m 0) b l) d = _
    rw [h4, h3, h5, h6, blockOut_eq]
    rfl
  · obtain ⟨B, S, d, rfl⟩ := coords3 i
    obtain ⟨t, b, l, rfl, rfl⟩ := point_at B S
    refine ⟨t, flush0_7 _ t, ?_⟩
    exact emb7 m hO t b l d ▸ View.emb_mem_set _ _

/-- Every run ends with the three results at these values and the arguments as they were. -/
theorem run_values (ρ : Dev nD → PrngReg) :
    θ_run defs (onTc (τ := τ) (main (F := Ideal))) ⟨m, fun _ => 0, ρ⟩ (fun r =>
      (∀ c : Dev nD, r.2.mem ((c.tc : Thread nD τ).loc main_v0_0) = imageRes m c
        ∧ r.2.mem ((c.tc : Thread nD τ).loc main_v0_1) = codesRes m c
        ∧ r.2.mem ((c.tc : Thread nD τ).loc main_v0_2) = scaleRes m c) ∧
      ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_and ((θ_run defs _ _).mono (fun _ h c => ⟨((h c).1 7).trans (image_final m (ok m) c),
    ((h c).1 8).trans (codes_final m (ok m) c), ((h c).1 9).trans (scale_final m (ok m) c)⟩) (run_main m ρ (ok m)))
    (unchanged m ρ (ok m))

end Cert.KernelIdeal.Gen
end
-- ==== Proof.RefHost.lean ====
module

public import proofs.«01_k».proof.Proof.Gen.ReferenceIdeal.Value
public import proofs.«01_k».proof.Proof.Spec
public import Idealize.ShloMosaic.Lib.Pointwise
public import Idealize.ShloMosaic.Lib.StableHlo.RunClose

@[expose] public section

set_option maxRecDepth 65536

noncomputable section

namespace Cert.ReferenceIdeal.Gen

open Idealize.ShloMosaic Idealize.ShloMosaic.TcCoe Idealize.ShloMosaic.Tactic
open Idealize.SL Idealize.SL.Sem
open Idealize.ShloMosaic.Pointwise

/-! # The reference's operations before its kernel, stage by stage -/

/-- The six runs of packed keys. -/
def hKeys (K : FVec Ideal S2x3840x384 .bf16) : FVec Ideal S2x3840x768 .bf16 :=
  concatenate S2x3840x768 2 [⟨S2x3840x128, extractStridedSlice S2x3840x128 ![0, 0, 0] K slices_S2x3840x384_S2x3840x128_0_0_0⟩,
    ⟨S2x3840x128, extractStridedSlice S2x3840x128 ![0, 0, 0] K slices_S2x3840x384_S2x3840x128_0_0_0⟩,
    ⟨S2x3840x128, extractStridedSlice S2x3840x128 ![0, 0, 128] K slices_S2x3840x384_S2x3840x128_0_0_128⟩,
    ⟨S2x3840x128, extractStridedSlice S2x3840x128 ![0, 0, 128] K slices_S2x3840x384_S2x3840x128_0_0_128⟩,
    ⟨S2x3840x128, extractStridedSlice S2x3840x128 ![0, 0, 0] K slices_S2x3840x384_S2x3840x128_0_0_0⟩,
    ⟨S2x3840x128, extractStridedSlice S2x3840x128 ![0, 0, 256] K slices_S2x3840x384_S2x3840x128_0_0_256⟩]
    concatenates_S2x3840x128_S2x3840x128_S2x3840x128_S2x3840x128_S2x3840x128_S2x3840x128_S2x3840x768_d2

/-- The logits, by set, batch, token, head and query. -/
def hLogits (K : FVec Ideal S2x3840x384 .bf16) (Q : FVec Ideal S768x1024 .bf16) : FVec Ideal S2x160x6x4x1024 .f32 :=
  shapeCast S2x160x6x4x1024 (Host.dotGeneral (F := Ideal) dot_S2x3840x768_S768x1024_S2x3840x1024_2_0_01_1_n_n (some .fp32)
    (extf .f32 (hKeys K) bitsLt_bf16_f32) (extf .f32 Q bitsLt_bf16_f32)) shapeCasts_S2x3840x1024_S2x160x6x4x1024

/-- The logits of the valid tokens, minus infinity at the others. -/
def hMasked (N : IVec S160 32) (L : FVec Ideal S2x160x6x4x1024 .f32) : FVec Ideal S2x160x6x4x1024 .f32 :=
  select (broadcastInDim S2x160x6x4x1024 ![0, 1, 2, 3, 4] bcast_S1x160x6x1x1_S2x160x6x4x1024_0_1_2_3_4
      (broadcastInDim S1x160x6x1x1 ![1, 2] bcast_S160x6_S1x160x6x1x1_1_2
        (cmpi .slt (broadcastInDim S160x6 ![0, 1] bcast_S1x6_S160x6_0_1 (broadcastInDim S1x6 ![1] bcast_S6_S1x6_1 (iotaInDim S6 32 0)))
          (broadcastInDim S160x6 ![0, 1] bcast_S160x1_S160x6_0_1 (broadcastInDim S160x1 ![0] bcast_S160_S160x1_0 N)))))
    L (broadcastInDim S2x160x6x4x1024 ![] bcast_S_S2x160x6x4x1024 (constant S_ .f32 0xFF800000#32))

/-- Two to the power of the logits less their maximum over the tokens. -/
def hPowers (X : FVec Ideal S2x160x6x4x1024 .f32) : FVec Ideal S2x160x6x4x1024 .f32 :=
  Host.powf (F := Ideal) (broadcastInDim S2x160x6x4x1024 ![] bcast_S_S2x160x6x4x1024 (constant S_ .f32 0x40000000#32))
    (subf X (broadcastInDim S2x160x6x4x1024 ![0, 1, 2, 3, 4] bcast_S2x160x1x4x1024_S2x160x6x4x1024_0_1_2_3_4
      (broadcastInDim S2x160x1x4x1024 ![0, 1, 3, 4] bcast_S2x160x4x1024_S2x160x1x4x1024_0_1_3_4
        (Host.reduce FloatOps.maximumf X (constant S_ .f32 0xFF800000#32) reducesTo_S2x160x6x4x1024_S2x160x4x1024_d2 h_S_))))

/-- The powers times the reciprocal of their sum over the tokens. -/
def hWeights (E : FVec Ideal S2x160x6x4x1024 .f32) : FVec Ideal S2x160x6x4x1024 .f32 :=
  mulf E (broadcastInDim S2x160x6x4x1024 ![0, 1, 2, 3, 4] bcast_S2x160x1x4x1024_S2x160x6x4x1024_0_1_2_3_4
    (Host.divf (F := Ideal) (broadcastInDim S2x160x1x4x1024 ![] bcast_S_S2x160x1x4x1024 (constant S_ .f32 0x3F800000#32))
      (broadcastInDim S2x160x1x4x1024 ![0, 1, 3, 4] bcast_S2x160x4x1024_S2x160x1x4x1024_0_1_3_4
        (Host.reduceAdd (F := Ideal) E (constant S_ .f32 0x00000000#32) reducesTo_S2x160x6x4x1024_S2x160x4x1024_d2 h_S_))))

/-- The first of the two halves of the packed values. -/
def hParts (U : FVec Ideal S160x128x144 .bf16) : FVec Ideal S160x2x64x3x3x8 .f32 :=
  shapeCast S160x2x64x3x3x8 (extractStridedSlice S160x2x64x3x3x1x8 ![0, 0, 0, 0, 0, 0, 0]
    (shapeCast S160x2x64x3x3x2x8 (extf .f32 U bitsLt_bf16_f32) shapeCasts_S160x128x144_S160x2x64x3x3x2x8)
    slices_S160x2x64x3x3x2x8_S160x2x64x3x3x1x8_0_0_0_0_0_0_0) shapeCasts_S160x2x64x3x3x1x8_S160x2x64x3x3x8

/-- The values: the sum of their three parts. -/
def hValues (A : FVec Ideal S160x2x64x3x3x8 .f32) : FVec Ideal S160x2x64x24 .f32 :=
  shapeCast S160x2x64x24 (addf (addf
      (shapeCast S160x2x64x3x8 (extractStridedSlice S160x2x64x1x3x8 ![0, 0, 0, 0, 0, 0] A slices_S160x2x64x3x3x8_S160x2x64x1x3x8_0_0_0_0_0_0) shapeCasts_S160x2x64x1x3x8_S160x2x64x3x8)
      (shapeCast S160x2x64x3x8 (extractStridedSlice S160x2x64x1x3x8 ![0, 0, 0, 1, 0, 0] A slices_S160x2x64x3x3x8_S160x2x64x1x3x8_0_0_0_1_0_0) shapeCasts_S160x2x64x1x3x8_S160x2x64x3x8))
      (shapeCast S160x2x64x3x8 (extractStridedSlice S160x2x64x1x3x8 ![0, 0, 0, 2, 0, 0] A slices_S160x2x64x3x3x8_S160x2x64x1x3x8_0_0_0_2_0_0) shapeCasts_S160x2x64x1x3x8_S160x2x64x3x8))
    shapeCasts_S160x2x64x3x8_S160x2x64x24

/-- The attention output, by batch, query and channel. -/
def hOut (V : FVec Ideal S160x2x64x24 .f32) (W : FVec Ideal S2x160x6x4x1024 .f32) : FVec Ideal S160x1024x128 .f32 :=
  shapeCast S160x1024x128 (transpose S160x1024x2x64 [0, 3, 1, 2] (Host.dotGeneral (F := Ideal) dot_S160x2x64x24_S2x160x24x1024_S160x2x64x1024_3_2_2_3_01_10 (some .fp32)
    V (shapeCast S2x160x24x1024 W shapeCasts_S2x160x6x4x1024_S2x160x24x1024)) transposes_S160x2x64x1024_S160x1024x2x64_0_3_1_2)
    shapeCasts_S160x1024x2x64_S160x1024x128

variable (m : (ℓ : Loc nD τ sig) → Buf (Elt Ideal) ℓ) (c : Dev nD)

/-- What the reference's kernel finds as its first operand. -/
theorem host_eq : V m c main_v46 =
    hOut (hValues (hParts (m ((c.tc : Thread nD τ).loc main_arg2))))
      (hWeights (hPowers (hMasked (m ((c.tc : Thread nD τ).loc main_arg0)) (hLogits (m ((c.tc : Thread nD τ).loc main_arg1)) (m ((c.tc : Thread nD τ).loc main_arg3)))))) := by
  show StableHlo.after _ _ _ = _
  after_results_entrywise (rounds := 1) []

end Cert.ReferenceIdeal.Gen
end
-- ==== Proof.RefAt.lean ====
module

public import proofs.«01_k».proof.Proof.RefHost

@[expose] public section

set_option maxRecDepth 65536

noncomputable section

namespace Cert.ReferenceIdeal.Gen

open Idealize.ShloMosaic Idealize.ShloMosaic.TcCoe Idealize.ShloMosaic.Tactic
open Idealize.SL Idealize.SL.Sem
open Idealize.ShloMosaic.Pointwise

/-! # The reference's host stages, element by element -/

theorem negInf : Ideal.ofBits .f32 0xFF800000#32 = ⊥ := by
  simp [Ideal.ofBits, Ideal.ieee]

theorem two : Ideal.ofBits .f32 0x40000000#32 = ((2 : ℝ) : EReal) := by
  simp [Ideal.ofBits, Ideal.ieee]
  rw [← EReal.coe_mul]
  norm_num

/-- Two to a power, however it is spelt. -/
theorem two_pow (x : EReal) : Ideal.pow (Ideal.ofBits .f32 0x40000000#32) x = Ideal.exp2 x := by
  rw [two]
  induction x with
  | bot => rw [Ideal.pow_coe_bot, Ideal.exp2_bot]; norm_num
  | top => rw [Ideal.pow_coe_top, Ideal.exp2_top]; norm_num
  | coe x => rw [Ideal.pow_coe_coe, Ideal.exp2_coe]

theorem hKeys_at (K : FVec Ideal S2x3840x384 .bf16) (g : Fin 2) (r : Fin 3840) (k : Fin 768) :
    hKeys K (ix3 g r k) = K (ix3 g r (Spec.keyCol k)) := by
  pointwise [hKeys]
  exact Spec.concat_cols (fun k => K (ix3 g r k)) k

theorem hLogits_at (K : FVec Ideal S2x3840x384 .bf16) (Q : FVec Ideal S768x1024 .bf16) (g : Fin 2) (B : Fin 160) (t : Fin 6)
    (h : Fin 4) (S : Fin 1024) :
    hLogits K Q (ix5 g B t h S)
      = Spec.logit (fun k => K (ix3 g ⟨24 * B.val + (4 * t.val + h.val), by omega⟩ k)) fun k => Q (ix2 k S) := by
  pointwise [hLogits]
  unfold Spec.logit
  refine Finset.sum_congr rfl fun x _ => ?_
  rw [hKeys_at]
  refine congrArg (fun r => K (ix3 g r (Spec.keyCol x)) * Q (ix2 x S)) (Fin.ext ?_)
  simp only
  omega

theorem hMasked_at (N : IVec S160 32) (L : FVec Ideal S2x160x6x4x1024 .f32) (g : Fin 2) (B : Fin 160) (t : Fin 6) (h : Fin 4)
    (S : Fin 1024) :
    hMasked N L (ix5 g B t h S) = if (BitVec.ofNat 32 t.val).slt (N (ix1 B)) then L (ix5 g B t h S) else ⊥ := by
  pointwise [hMasked]
  rw [negInf]
  unfold Scalar.select IntOp.cmpi
  cases hs : (BitVec.ofNat 32 t.val).slt (N (ix1 B)) <;> simp [hs]

theorem hPowers_at (X : FVec Ideal S2x160x6x4x1024 .f32) (g : Fin 2) (B : Fin 160) (t : Fin 6) (h : Fin 4) (S : Fin 1024) :
    hPowers X (ix5 g B t h S)
      = Ideal.exp2 (X (ix5 g B t h S) - Finset.univ.fold max ⊥ fun t : Fin 6 => X (ix5 g B t h S)) := by
  pointwise [hPowers]
  rw [two_pow, negInf]

theorem hWeights_at (E : FVec Ideal S2x160x6x4x1024 .f32) (g : Fin 2) (B : Fin 160) (t : Fin 6) (h : Fin 4) (S : Fin 1024) :
    hWeights E (ix5 g B t h S) = E (ix5 g B t h S) * Ideal.div 1 (∑ t : Fin 6, E (ix5 g B t h S)) := by
  pointwise [hWeights]

theorem hParts_at (U : FVec Ideal S160x128x144 .bf16) (B : Fin 160) (g : Fin 2) (d : Fin 64) (p : Fin 3) (q : Fin 3) (i : Fin 8) :
    hParts U (ix6 B g d p q i) = U (ix3 B ⟨g.val * 64 + d.val, by omega⟩ (Attn.col p q 0 i)) := by
  pointwise [hParts]
  refine congrArg (fun k => U (ix3 B _ k)) (Fin.ext ?_)
  simp only [Attn.col]
  show p.val * 48 + q.val * 16 + i.val = 48 * p.val + 16 * q.val + 8 * 0 + i.val
  omega

theorem hValues_at (A : FVec Ideal S160x2x64x3x3x8 .f32) (B : Fin 160) (g : Fin 2) (d : Fin 64) (r : Fin 24) :
    hValues A (ix4 B g d r) = A (ix6 B g d 0 ⟨r.val / 8, by omega⟩ ⟨r.val % 8, by omega⟩)
      + A (ix6 B g d 1 ⟨r.val / 8, by omega⟩ ⟨r.val % 8, by omega⟩)
      + A (ix6 B g d 2 ⟨r.val / 8, by omega⟩ ⟨r.val % 8, by omega⟩) := by
  pointwise [hValues]

theorem hOut_at (V : FVec Ideal S160x2x64x24 .f32) (W : FVec Ideal S2x160x6x4x1024 .f32) (B : Fin 160) (S : Fin 1024) (d : Fin 128) :
    hOut V W (ix3 B S d) = ∑ r : Fin 24, V (ix4 B ⟨d.val / 64, by omega⟩ ⟨d.val % 64, by omega⟩ r)
      * W (ix5 ⟨d.val / 64, by omega⟩ B ⟨r.val / 4, by omega⟩ ⟨r.val % 4, by omega⟩ S) := by
  pointwise [hOut]

/-- The masked logits of a set, batch and query, row by row. -/
theorem masked_row (N : IVec S160 32) (K : FVec Ideal S2x3840x384 .bf16) (Q : FVec Ideal S768x1024 .bf16) (g : Fin 2) (B : Fin 160)
    (t : Fin 6) (h : Fin 4) (S : Fin 1024) (r : Fin 24) (hr : r.val = 4 * t.val + h.val) :
    hMasked N (hLogits K Q) (ix5 g B t h S) = Attn.masked (N (ix1 B))
      (fun r => Spec.logit (fun k => K (ix3 g ⟨24 * B.val + r.val, by omega⟩ k)) fun k => Q (ix2 k S)) r := by
  have ht : (4 * t.val + h.val) / 4 = t.val := by omega
  rw [hMasked_at, hLogits_at]
  unfold Attn.masked
  simp only [hr, ht]

/-- The powers of a set, batch and query, row by row, of any array read there as `X`. -/
theorem powers_row (A : FVec Ideal S2x160x6x4x1024 .f32) (X : Fin 24 → EReal) (g : Fin 2) (B : Fin 160) (S : Fin 1024)
    (hX : ∀ (t : Fin 6) (h : Fin 4) (r : Fin 24), r.val = 4 * t.val + h.val → A (ix5 g B t h S) = X r)
    (t : Fin 6) (h : Fin 4) (r : Fin 24) (hr : r.val = 4 * t.val + h.val) :
    hPowers A (ix5 g B t h S) = Attn.powers X r := by
  rw [hPowers_at, hX t h r hr]
  unfold Attn.powers Attn.headMax
  have hh : Attn.head r = h := Fin.ext (by show r.val % 4 = h.val; omega)
  rw [hh]
  have hf : (fun t : Fin 6 => A (ix5 g B t h S)) = fun t : Fin 6 => X ⟨4 * t.val + h.val, by omega⟩ :=
    funext fun t => hX t h _ rfl
  rw [hf]

/-- The weights of a set, batch and query, row by row. -/
theorem weights_row (N : IVec S160 32) (K : FVec Ideal S2x3840x384 .bf16) (Q : FVec Ideal S768x1024 .bf16) (g : Fin 2) (B : Fin 160)
    (t : Fin 6) (h : Fin 4) (S : Fin 1024) (r : Fin 24) (hr : r.val = 4 * t.val + h.val) :
    hWeights (hPowers (hMasked N (hLogits K Q))) (ix5 g B t h S) = Attn.weight (N (ix1 B))
      (fun r => Spec.logit (fun k => K (ix3 g ⟨24 * B.val + r.val, by omega⟩ k)) fun k => Q (ix2 k S)) r := by
  have hp := powers_row (hMasked N (hLogits K Q)) (Attn.masked (N (ix1 B))
      fun r => Spec.logit (fun k => K (ix3 g ⟨24 * B.val + r.val, by omega⟩ k)) fun k => Q (ix2 k S)) g B S fun t h r hr => masked_row N K Q g B t h S r hr
  rw [hWeights_at, hp t h r hr]
  unfold Attn.weight Attn.headSum
  have hh : Attn.head r = h := Fin.ext (by show r.val % 4 = h.val; omega)
  rw [hh]
  rw [Finset.sum_congr rfl fun t _ => hp t h ⟨4 * t.val + h.val, by omega⟩ rfl]

/-- The host stages compose to the attention. -/
theorem host_at (N : IVec S160 32) (K : FVec Ideal S2x3840x384 .bf16) (U : FVec Ideal S160x128x144 .bf16)
    (Q : FVec Ideal S768x1024 .bf16) (B : Fin 160) (S : Fin 1024) (d : Fin 128) :
    hOut (hValues (hParts U)) (hWeights (hPowers (hMasked N (hLogits K Q)))) (ix3 B S d)
      = Spec.attention (fun B => N (ix1 B)) (fun g r k => K (ix3 g r k)) (fun B d k => U (ix3 B d k)) (fun k S => Q (ix2 k S)) B S d := by
  rw [hOut_at]
  unfold Spec.attention Spec.out Attn.attend Attn.value
  refine Finset.sum_congr rfl fun r _ => ?_
  rw [weights_row N K Q _ B _ _ S r (by simp only; omega), hValues_at, hParts_at, hParts_at, hParts_at]
  have hd : (⟨d.val / 64 * 64 + d.val % 64, by omega⟩ : Fin 128) = d := Fin.ext (by simp only; omega)
  simp only [hd]

end Cert.ReferenceIdeal.Gen
end
-- ==== Proof.RefRegion.lean ====
module

public import proofs.«01_k».proof.Proof.Gen.ReferenceIdeal.Value
public import proofs.«01_k».proof.Proof.Spec
public import Idealize.ShloMosaic.Lib.Pointwise
public import proofs.«01_k».proof.Proof.RefAt

@[expose] public section

set_option maxRecDepth 65536

noncomputable section

namespace Cert.ReferenceIdeal.Gen

open Idealize.ShloMosaic Idealize.ShloMosaic.TcCoe Idealize.ShloMosaic.Tactic
open Idealize.SL Idealize.SL.Sem
open Idealize.ShloMosaic.Pointwise

/-! # The reference's kernel: quantisation, projection and normalisation -/
/-- A cast to the same shape changes nothing. -/
theorem pay1_eq (O : FVec Ideal S160x1024x128 .f32) : k0_pay1 (F := Ideal) O = O := by
  unfold k0_pay1
  exact shapeCast_self O _

/-- A column of a unit axis is the array without the axis. -/
theorem unit_col (v : FVec Ideal S160x1024 .f32) (B : Fin 160) (S : Fin 1024) :
    shapeCast S160x1024x1 v shapeCasts_S160x1024_S160x1024x1 (ix3 B S 0) = v (ix2 B S) := by
  pointwise []

/-- The greatest absolute value of a row, over 448. -/
theorem peak_of (O : FVec Ideal S160x1024x128 .f32) (v : FVec Ideal S160x1024 .f32)
    (hv : v = multiReduction (F := Ideal) .maximumf [2] S160x1024 (absf O) 0xFF800000#32 reduces_S160x1024x128_S160x1024 (.inl rfl) rfl)
    (B : Fin 160) (S : Fin 1024) :
    mulf (F := Ideal) (shapeCast S160x1024x1 v shapeCasts_S160x1024_S160x1024x1)
      (broadcast S160x1024x1 (Scalar.ofBits .f32 0x3B124925#32)) (ix3 B S 0) = Quant.peak fun d => O (ix3 B S d) := by
  have h : v (ix2 B S) = Finset.univ.fold max (Ideal.ofBits .f32 0xFF800000#32) fun d : Fin 128 => FloatOps.absf (F := Ideal) (φ := .f32) (O (ix3 B S d)) := by
    rw [hv]
    pointwise []
  pointwise []
  rw [h, negInf]
  rfl

/-- The powers of two compared with. -/
theorem pows_of (k : Fin 246) : exp2 (F := Ideal) (sitofp .f32 (subi (iota .tc S1x1x246 32 [2] iota_S1x1x246_d2_w32)
    (broadcast S1x1x246 126#32))) (ix3 0 0 k) = Quant.refPow k.val := by
  pointwise []
  have key : ∀ k : Fin 246, (IntOp.subi (BitVec.ofNat 32 k.val) 126#32).toInt = (k.val : ℤ) - 126 := by decide +kernel
  show Ideal.exp2 (((IntOp.subi (BitVec.ofNat 32 k.val) 126#32).toInt : ℝ) : EReal) = _
  rw [key]
  rfl

/-- The greatest power at or below. -/
theorem below_of (y : FVec Ideal S160x1024x1 .f32) (p : FVec Ideal S1x1x246 .f32) (v : FVec Ideal S160x1024 .f32)
    (hv : v = multiReduction (F := Ideal) .maximumf [2] S160x1024 (select (cmpf .oge (broadcastTo S160x1024x246 y broadcasts_S160x1024x1_S160x1024x246)
        (broadcastTo S160x1024x246 p broadcasts_S1x1x246_S160x1024x246))
      (broadcastTo S160x1024x246 (shapeCast S1x1x246 p shapeCasts_S1x1x246_S1x1x246) broadcasts_S1x1x246_S160x1024x246)
      (broadcast S160x1024x246 (Scalar.ofBits .f32 0x00000000#32)))
      0xFF800000#32 reduces_S160x1024x246_S160x1024 (.inl rfl) rfl)
    (hp : ∀ k : Fin 246, p (ix3 0 0 k) = Quant.refPow k.val) (B : Fin 160) (S : Fin 1024) :
    shapeCast S160x1024x1 v shapeCasts_S160x1024_S160x1024x1 (ix3 B S 0) = Quant.below (y (ix3 B S 0)) := by
  rw [unit_col, hv]
  pointwise []
  simp only [hp, negInf]
  unfold Quant.below
  congr

/-- One where nothing is below, twice the greatest power below elsewhere. -/
theorem scale_of (v : FVec Ideal S160x1024x1 .f32) (i : EReal) (B : Fin 160) (S : Fin 1024) (hv : v (ix3 B S 0) = Quant.below i) :
    select (cmpf .oeq v (broadcast S160x1024x1 (Scalar.ofBits .f32 0x00000000#32)))
      (broadcast S160x1024x1 (Scalar.ofBits .f32 0x3F800000#32))
      (mulf (broadcast S160x1024x1 (Scalar.ofBits .f32 0x40000000#32)) v) (ix3 B S 0) = Quant.scale i := by
  pointwise []
  rw [hv, two]
  unfold Quant.scale
  congr

/-- A row's code, from its scale. -/
theorem codes_of (O : FVec Ideal S160x1024x128 .f32) (s : FVec Ideal S160x1024x1 .f32) (B : Fin 160) (S : Fin 1024) (d : Fin 128)
    (hs : s (ix3 B S 0) = Quant.scaleOf fun d => O (ix3 B S d)) :
    truncf (F := Ideal) FTy.fp8e4m3 (minimumf (broadcast S160x1024x128 (Scalar.ofBits FTy.f32 0x43E00000#32))
        (maximumf (broadcast S160x1024x128 (Scalar.ofBits FTy.f32 0xC3E00000#32))
          (mulf O (broadcastTo S160x1024x128 (divf (broadcast S160x1024x1 (Scalar.ofBits FTy.f32 0x3F800000#32)) s)
              broadcasts_S160x1024x1_S160x1024x128)))) bitsLt_fp8e4m3_f32 (ix3 B S d)
      = Quant.code (fun d => O (ix3 B S d)) d := by
  pointwise []
  rw [hs]
  rfl

/-- The scale the reference's kernel computes for a row. -/
theorem scale_at (O : FVec Ideal S160x1024x128 .f32) (B : Fin 160) (S : Fin 1024) :
    k0_pay2 (F := Ideal) O (ix3 B S 0) = Quant.scaleOf fun d => O (ix3 B S d) := by
  unfold k0_pay2
  rw [pay1_eq]
  refine scale_of _ _ B S ?_
  refine (below_of _ _ _ rfl pows_of B S).trans ?_
  rw [peak_of O _ rfl]

/-- The codes it stores. -/
theorem codes_at (O : FVec Ideal S160x1024x128 .f32) (B : Fin 160) (S : Fin 1024) (d : Fin 128) :
    k0_pay3 (F := Ideal) O (ix3 B S d) = Quant.code (fun d => O (ix3 B S d)) d := by
  unfold k0_pay3
  rw [pay1_eq]
  exact codes_of O _ B S d (scale_at O B S)

/-- The scales it stores. -/
theorem scales_at (O : FVec Ideal S160x1024x128 .f32) (B : Fin 160) (S : Fin 1024) :
    k0_pay4 (F := Ideal) O (ix2 B S) = Quant.scaleOf fun d => O (ix3 B S d) := by
  rw [← scale_at]
  generalize hs : k0_pay2 (F := Ideal) O = s
  unfold k0_pay4
  rw [hs]
  pointwise []

/-- Eight copies of 128 columns side by side. -/
theorem copies (r : Fin 128 → EReal) (S : Fin 1024) :
    (if h : S.val < 128 then r ⟨S.val, h⟩
      else if h : S.val - 128 < 128 then r ⟨S.val - 128, h⟩
      else if h : S.val - 128 - 128 < 128 then r ⟨S.val - 128 - 128, h⟩
      else if h : S.val - 128 - 128 - 128 < 128 then r ⟨S.val - 128 - 128 - 128, h⟩
      else if h : S.val - 128 - 128 - 128 - 128 < 128 then r ⟨S.val - 128 - 128 - 128 - 128, h⟩
      else if h : S.val - 128 - 128 - 128 - 128 - 128 < 128 then r ⟨S.val - 128 - 128 - 128 - 128 - 128, h⟩
      else if h : S.val - 128 - 128 - 128 - 128 - 128 - 128 < 128 then r ⟨S.val - 128 - 128 - 128 - 128 - 128 - 128, h⟩
      else r ⟨S.val - 128 - 128 - 128 - 128 - 128 - 128 - 128, by omega⟩) = r ⟨S.val % 128, by omega⟩ := by
  split_ifs <;> exact congrArg r (Fin.ext (by simp only; omega))

theorem image_at (O : FVec Ideal S160x1024x128 .f32) (w : FVec Ideal S256x256 .bf16)
    (x : FVec Ideal S256x1024 .f32) (g b : FVec Ideal S256x128 .f32) (B : Fin 160) (S : Fin 1024) (e : Fin 256) :
    k0_pay5 (F := Ideal) (k0_pay2 O) (k0_pay3 O) w x g b (ix3 B S e)
      = Quant.image (fun e k => w (ix2 e k)) (fun e => x (ix2 e S)) (fun e => g (ix2 e ⟨S.val % 128, by omega⟩))
          (fun e => b (ix2 e ⟨S.val % 128, by omega⟩)) (fun d => O (ix3 B S d)) e := by
  pointwise [k0_pay5]
  rw [copies fun l => g (ix2 e l), copies fun l => b (ix2 e l)]
  simp only [codes_at, scale_at]
  rfl

end Cert.ReferenceIdeal.Gen
end
-- ==== Proof.RefResult.lean ====
module

public import Idealize.ShloMosaic.Lib.Pipeline.ValueKit
public import proofs.«01_k».proof.Proof.RefAt
public import proofs.«01_k».proof.Proof.RefRegion

@[expose] public section

set_option maxRecDepth 65536

noncomputable section

namespace Cert.ReferenceIdeal.Gen

open Idealize.ShloMosaic Idealize.ShloMosaic.TcCoe Idealize.ShloMosaic.Tactic
open Idealize.SL Idealize.SL.Sem
open Idealize.ShloMosaic.Pointwise

/-! # The reference's three results after the run -/

variable (m : (ℓ : Loc nD τ sig) → Buf (Elt Ideal) ℓ) (c : Dev nD)

/-- Every window's block at the one point is the first. -/
theorem index_zero : ∀ t : Fin cfg0.N, win0_0.index t = ![0, 0, 0] ∧ win0_1.index t = ![0, 0] ∧ win0_2.index t = ![0, 0]
    ∧ win0_3.index t = ![0, 0] ∧ win0_4.index t = ![0, 0] :=
  (by decide +kernel : ∀ t : Fin grid0.N, _)

theorem block0 : iblk m c 0 t0_0 = V m c main_v46 := by
  blk_ext! [iblk, index_zero t0_0]
theorem block1 : iblk m c 1 t0_0 = V m c main_arg5 := by
  blk_ext! [iblk, index_zero t0_0]
theorem block2 : iblk m c 2 t0_0 = V m c main_arg4 := by
  blk_ext! [iblk, index_zero t0_0]
theorem block3 : iblk m c 3 t0_0 = V m c main_arg6 := by
  blk_ext! [iblk, index_zero t0_0]
theorem block4 : iblk m c 4 t0_0 = V m c main_arg7 := by
  blk_ext! [iblk, index_zero t0_0]

/-- The codes after the run. -/
theorem codes_final : (dats m 0 c).arrAt 6 cfg0.N = k0_pay3 (F := Ideal) (V m c main_v46) := by
  refine (dats m 0 c).arrAt_eq_of_after_last 6 t0_0 (by decide +kernel) _ fun j => ?_
  blk_simp
  rw [after0_6, block0]
  unfold out0_6 r0_0
  rw [View.canon_cons_unit_lit _ _ _ (by decide), View.ld_unit_lit _ _ (by decide)]

/-- The scales after the run. -/
theorem scale_final : (dats m 0 c).arrAt 7 cfg0.N = k0_pay4 (F := Ideal) (V m c main_v46) := by
  refine (dats m 0 c).arrAt_eq_of_after_last 7 t0_0 (by decide +kernel) _ fun j => ?_
  blk_simp
  rw [after0_7, block0]
  unfold out0_7 r0_1 r0_0
  rw [View.canon_cons_unit_lit _ _ _ (by decide), View.ld_unit_lit _ _ (by decide)]

/-- The image after the run. -/
theorem image_final : (dats m 0 c).arrAt 5 cfg0.N = k0_pay5 (F := Ideal) (k0_pay2 (V m c main_v46)) (k0_pay3 (V m c main_v46))
    (V m c main_arg5) (V m c main_arg4) (V m c main_arg6) (V m c main_arg7) := by
  refine (dats m 0 c).arrAt_eq_of_after_last 5 t0_0 (by decide +kernel) _ fun j => ?_
  blk_simp
  rw [after0_5, block0, block1, block2, block3, block4]
  unfold out0_5 r0_5 r0_0 r0_2 r0_3 r0_4
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]

/-! The results in terms of the launched arguments, read at plain indices. -/

section values
variable (N : IVec S160 32) (K : FVec Ideal S2x3840x384 .bf16) (U : FVec Ideal S160x128x144 .bf16)
  (Q : FVec Ideal S768x1024 .bf16) (X : FVec Ideal S256x1024 .f32) (W : FVec Ideal S256x256 .bf16) (G L : FVec Ideal S256x128 .f32)

/-- The attention of the arguments. -/
def attn : Fin 160 → Fin 1024 → Fin 128 → EReal :=
  Spec.attention (fun B => N (ix1 B)) (fun g r k => K (ix3 g r k)) (fun B d k => U (ix3 B d k)) fun k S => Q (ix2 k S)

/-- The codes, the scales and the image of the arguments. -/
def codesOf (y : S160x1024x128.Idx) : EReal := Quant.code (attn N K U Q (y 0) (y 1)) (y 2)
def scaleOf (y : S160x1024.Idx) : EReal := Quant.scaleOf (attn N K U Q (y 0) (y 1))
def imageOf (y : S160x1024x256.Idx) : EReal :=
  Spec.image (fun B => N (ix1 B)) (fun g r k => K (ix3 g r k)) (fun B d k => U (ix3 B d k)) (fun k S => Q (ix2 k S))
    (fun e k => W (ix2 e k)) (fun e S => X (ix2 e S)) (fun e l => G (ix2 e l)) (fun e l => L (ix2 e l)) (y 0) (y 1) (y 2)

end values

/-- What the reference's kernel finds as its first operand, row by row. -/
theorem operand_row (B : Fin 160) (S : Fin 1024) : (fun d => (V m c main_v46 : FVec Ideal S160x1024x128 .f32) (ix3 B S d))
    = attn (m ((c.tc : Thread nD τ).loc main_arg0)) (m ((c.tc : Thread nD τ).loc main_arg1)) (m ((c.tc : Thread nD τ).loc main_arg2)) (m ((c.tc : Thread nD τ).loc main_arg3)) B S := by
  funext d
  rw [host_eq]
  exact host_at _ _ _ _ B S d

theorem codes_eq : (dats m 0 c).arrAt 6 cfg0.N = codesOf (m ((c.tc : Thread nD τ).loc main_arg0)) (m ((c.tc : Thread nD τ).loc main_arg1)) (m ((c.tc : Thread nD τ).loc main_arg2)) (m ((c.tc : Thread nD τ).loc main_arg3)) := by
  refine (codes_final m c).trans (funext fun y => ?_)
  obtain ⟨B, S, d, rfl⟩ : ∃ (B : Fin 160) (S : Fin 1024) (d : Fin 128), y = ix3 B S d := ⟨y 0, y 1, y 2, eq_ix3 y⟩
  refine (codes_at _ B S d).trans ?_
  rw [operand_row]
  rfl

theorem scale_eq : (dats m 0 c).arrAt 7 cfg0.N = scaleOf (m ((c.tc : Thread nD τ).loc main_arg0)) (m ((c.tc : Thread nD τ).loc main_arg1)) (m ((c.tc : Thread nD τ).loc main_arg2)) (m ((c.tc : Thread nD τ).loc main_arg3)) := by
  refine (scale_final m c).trans (funext fun y => ?_)
  obtain ⟨B, S, rfl⟩ : ∃ (B : Fin 160) (S : Fin 1024), y = ix2 B S := ⟨y 0, y 1, eq_ix2 y⟩
  refine (scales_at _ B S).trans ?_
  rw [operand_row]
  rfl

theorem image_eq : (dats m 0 c).arrAt 5 cfg0.N = imageOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) := by
  refine (image_final m c).trans (funext fun y => ?_)
  obtain ⟨B, S, e, rfl⟩ : ∃ (B : Fin 160) (S : Fin 1024) (e : Fin 256), y = ix3 B S e := ⟨y 0, y 1, y 2, eq_ix3 y⟩
  refine (image_at _ _ _ _ _ B S e).trans ?_
  rw [operand_row, V_main_arg4, V_main_arg5, V_main_arg6, V_main_arg7]
  rfl

end Cert.ReferenceIdeal.Gen
end
-- ==== Proof.PrepRow.lean ====
module

public import Idealize.ShloMosaic.Lib.Pointwise

@[expose] public section

namespace Cert.Row

open Idealize.ShloMosaic Idealize.ShloMosaic.Pointwise

/-- A vector as an array of one row. -/
def r128 (v : (⟨1, ![128]⟩ : Shape).Idx → EReal) (y : (⟨2, ![1, 128]⟩ : Shape).Idx) : EReal := v (ix1 (y 1))
def r256 (v : (⟨1, ![256]⟩ : Shape).Idx → EReal) (y : (⟨2, ![1, 256]⟩ : Shape).Idx) : EReal := v (ix1 (y 1))

end Cert.Row
end
-- ==== Proof.PrepQuant.lean ====
module

public import proofs.«01_k».proof.Proof.Gen.PrepIdeal.Frame
public import proofs.«01_k».proof.Proof.Image
public import Idealize.ShloMosaic.Lib.Pointwise

@[expose] public section

set_option maxRecDepth 65536

noncomputable section

namespace Cert.Quant

open Idealize.ShloMosaic Idealize.ShloMosaic.Pointwise

/-! # The quantiser on whole arrays, found by the binary search -/

/-- One step of the search for the exponent field: try the bit `b`. -/
def stepV {s : Shape} (y : FVec Ideal s .f32) (f : IVec s 32) (b : BitVec 32) : IVec s 32 :=
  select (cmpf .oge y (bitcastToFloat .f32 (shli (addi f (broadcast s b)) (broadcast s 23#32)))) (addi f (broadcast s b)) f

/-- The exponent field. -/
def fieldV {s : Shape} (y : FVec Ideal s .f32) : IVec s 32 :=
  minsi (stepV y (stepV y (stepV y (stepV y (stepV y (stepV y (stepV y (stepV y
    (broadcast s 0#32) 128#32) 64#32) 32#32) 16#32) 8#32) 4#32) 2#32) 1#32) (broadcast s 246#32)

/-- The scale of a field. -/
def scaleV {s : Shape} (f : IVec s 32) : FVec Ideal s .f32 :=
  select (cmpi .eq f (broadcast s 0#32)) (broadcast s (Scalar.ofBits .f32 0x3F800000#32))
    (bitcastToFloat .f32 (shli (addi f (broadcast s 1#32)) (broadcast s 23#32)))

/-- One over the scale of a field. -/
def inverseV {s : Shape} (f : IVec s 32) : FVec Ideal s .f32 :=
  select (cmpi .eq f (broadcast s 0#32)) (broadcast s (Scalar.ofBits .f32 0x3F800000#32))
    (bitcastToFloat .f32 (shli (subi (broadcast s 253#32) f) (broadcast s 23#32)))

theorem stepV_at {s : Shape} (y : FVec Ideal s .f32) (f : IVec s 32) (b n : ℕ) (i : s.Idx) (hf : f i = BitVec.ofNat 32 n) :
    stepV y f (BitVec.ofNat 32 b) i = BitVec.ofNat 32 (step (y i) n b) := by
  pointwise [stepV]
  exact word_step _ _ _ hf

theorem fieldV_at {s : Shape} (y : FVec Ideal s .f32) (i : s.Idx) : fieldV y i = BitVec.ofNat 32 (field (y i)) := by
  pointwise [fieldV]
  rw [← word_field]
  congr 1
  exact stepV_at _ _ 1 _ _ (stepV_at _ _ 2 _ _ (stepV_at _ _ 4 _ _ (stepV_at _ _ 8 _ _ (stepV_at _ _ 16 _ _
    (stepV_at _ _ 32 _ _ (stepV_at _ _ 64 _ _ (stepV_at _ _ 128 0 _ rfl)))))))

theorem scaleV_at {s : Shape} (y : FVec Ideal s .f32) (i : s.Idx) : scaleV (fieldV y) i = scale (y i) := by
  pointwise [scaleV]
  rw [fieldV_at]
  exact word_scale _

theorem inverseV_at {s : Shape} (y : FVec Ideal s .f32) (i : s.Idx) : inverseV (fieldV y) i = Ideal.div 1 (scale (y i)) := by
  pointwise [inverseV]
  rw [fieldV_at]
  exact word_inverse _

end Cert.Quant

namespace Cert.PrepIdeal.Gen

open Idealize.ShloMosaic Idealize.ShloMosaic.TcCoe Idealize.ShloMosaic.Tactic
open Idealize.SL Idealize.SL.Sem
open Idealize.ShloMosaic.Pointwise

/-! # The body's scales and codes are the quantiser's -/

theorem pay11_eq (a b : Vec Ideal S1024x256 .bf16) :
    k0_pay11 (F := Ideal) (k0_pay6 a b) (k0_pay7 a b) (k0_pay8 a b) (k0_pay9 a b) = Quant.scaleV (Quant.fieldV (k0_pay6 (F := Ideal) a b)) := by
  unfold k0_pay11 k0_pay10 k0_pay9 k0_pay8 k0_pay7
  generalize k0_pay6 (F := Ideal) a b = y
  unfold Quant.scaleV Quant.fieldV Quant.stepV
  rfl

theorem pay12_eq (a b : Vec Ideal S1024x256 .bf16) :
    k0_pay12 (F := Ideal) (k0_pay6 a b) (k0_pay7 a b) (k0_pay8 a b) (k0_pay9 a b)
      = broadcastTo S1024x256 (Quant.inverseV (Quant.fieldV (k0_pay6 (F := Ideal) a b))) broadcasts_S1024x1_S1024x256 := by
  unfold k0_pay12 k0_pay10 k0_pay9 k0_pay8 k0_pay7
  generalize k0_pay6 (F := Ideal) a b = y
  unfold Quant.inverseV Quant.fieldV Quant.stepV
  rfl

theorem pay19_eq (v : FVec Ideal S1024x256 .f32) :
    k0_pay19 (F := Ideal) (k0_pay14 v) (k0_pay15 v) (k0_pay16 v) (k0_pay17 v) = Quant.scaleV (Quant.fieldV (k0_pay14 (F := Ideal) v)) := by
  unfold k0_pay19 k0_pay18 k0_pay17 k0_pay16 k0_pay15
  generalize k0_pay14 (F := Ideal) v = y
  unfold Quant.scaleV Quant.fieldV Quant.stepV
  rfl

theorem pay20_eq (v : FVec Ideal S1024x256 .f32) :
    k0_pay20 (F := Ideal) v (k0_pay14 v) (k0_pay15 v) (k0_pay16 v) (k0_pay17 v)
      = mulf v (broadcastTo S1024x256 (Quant.inverseV (Quant.fieldV (k0_pay14 (F := Ideal) v))) broadcasts_S1024x1_S1024x256) := by
  unfold k0_pay20 k0_pay18 k0_pay17 k0_pay16 k0_pay15
  generalize k0_pay14 (F := Ideal) v = y
  unfold Quant.inverseV Quant.fieldV Quant.stepV
  rfl

theorem pay26_eq (v : FVec Ideal S1024x256 .f32) :
    k0_pay26 (F := Ideal) (k0_pay22 v) (k0_pay23 v) (k0_pay24 v) (k0_pay25 v) = Quant.scaleV (Quant.fieldV (k0_pay22 (F := Ideal) v)) := by
  unfold k0_pay26 k0_pay25 k0_pay24 k0_pay23
  generalize k0_pay22 (F := Ideal) v = y
  unfold Quant.scaleV Quant.fieldV Quant.stepV
  rfl

theorem pay32_eq (v : FVec Ideal S256x1024 .f32) :
    k0_pay32 (F := Ideal) (k0_pay28 v) (k0_pay29 v) (k0_pay30 v) (k0_pay31 v) = Quant.scaleV (Quant.fieldV (k0_pay28 (F := Ideal) v)) := by
  unfold k0_pay32 k0_pay31 k0_pay30 k0_pay29
  generalize k0_pay28 (F := Ideal) v = y
  unfold Quant.scaleV Quant.fieldV Quant.stepV
  rfl

/-- The greatest magnitude of a row over 448 is the same along either axis. -/
theorem peak_col (O : FVec Ideal S1024x256 .f32) (v : FVec Ideal S1024 .f32)
    (hv : v = multiReduction (F := Ideal) .maximumf [1] S1024 (absf O) 0xFF800000#32 reduces_S1024x256_S1024 (.inl rfl) rfl)
    (S : Fin 1024) :
    mulf (F := Ideal) (shapeCast S1024x1 v shapeCasts_S1024_S1024x1) (broadcast S1024x1 (Scalar.ofBits .f32 0x3B124925#32)) (ix2 S 0)
      = (Finset.univ.fold max (Ideal.ofBits .f32 0xFF800000#32) fun d : Fin 256 => FloatOps.absf (F := Ideal) (φ := .f32) (O (ix2 S d)))
        * Ideal.ofBits .f32 0x3B124925#32 := by
  have h : v (ix1 S) = Finset.univ.fold max (Ideal.ofBits .f32 0xFF800000#32) fun d : Fin 256 => FloatOps.absf (F := Ideal) (φ := .f32) (O (ix2 S d)) := by
    rw [hv]
    pointwise []
  pointwise []
  rw [h]

theorem peak_row (O : FVec Ideal S1024x256 .f32) (v : FVec Ideal S1024 .f32)
    (hv : v = multiReduction (F := Ideal) .maximumf [0] S1024 (absf (transpose S256x1024 [1, 0] O transposes_S1024x256_p1_0_S256x1024))
      0xFF800000#32 reduces_S256x1024_S1024 (.inl rfl) rfl)
    (S : Fin 1024) :
    mulf (F := Ideal) (shapeCast S1x1024 v shapeCasts_S1024_S1x1024) (broadcast S1x1024 (Scalar.ofBits .f32 0x3B124925#32)) (ix2 0 S)
      = (Finset.univ.fold max (Ideal.ofBits .f32 0xFF800000#32) fun d : Fin 256 => FloatOps.absf (F := Ideal) (φ := .f32) (O (ix2 S d)))
        * Ideal.ofBits .f32 0x3B124925#32 := by
  have h : v (ix1 S) = Finset.univ.fold max (Ideal.ofBits .f32 0xFF800000#32) fun d : Fin 256 => FloatOps.absf (F := Ideal) (φ := .f32) (O (ix2 S d)) := by
    rw [hv]
    pointwise []
  pointwise []
  rw [h]

theorem peaks_sum (a b : Vec Ideal S1024x256 .bf16) (S : Fin 1024) :
    k0_pay22 (F := Ideal) (k0_pay5 a b) (ix2 0 S) = k0_pay6 (F := Ideal) a b (ix2 S 0) :=
  (peak_row _ _ rfl S).trans (peak_col _ _ rfl S).symm

theorem peaks_single (v : FVec Ideal S1024x256 .f32) (S : Fin 1024) :
    k0_pay28 (F := Ideal) (k0_pay27 v) (ix2 0 S) = k0_pay14 (F := Ideal) v (ix2 S 0) :=
  (peak_row _ _ rfl S).trans (peak_col _ _ rfl S).symm

/-- Scales along the other axis are the scales transposed. -/
theorem scales_row (y : FVec Ideal S1024x1 .f32) (z : FVec Ideal S1x1024 .f32) (h : ∀ S : Fin 1024, z (ix2 0 S) = y (ix2 S 0)) (S : Fin 1024) :
    Quant.scaleV (Quant.fieldV z) (ix2 0 S) = Quant.scaleV (Quant.fieldV y) (ix2 S 0) := by
  rw [Quant.scaleV_at, Quant.scaleV_at, h]

end Cert.PrepIdeal.Gen
end
-- ==== Proof.PrepSame.lean ====
module

public import proofs.«01_k».proof.Proof.Gen.PrepReferenceIdeal.Frame
public import proofs.«01_k».proof.Proof.PrepQuant
public import proofs.«01_k».proof.Proof.RefAt

@[expose] public section

set_option maxRecDepth 65536

noncomputable section

namespace Cert.PrepReferenceIdeal.Gen

open Idealize.ShloMosaic Idealize.ShloMosaic.TcCoe Idealize.ShloMosaic.Tactic
open Idealize.SL Idealize.SL.Sem
open Idealize.ShloMosaic.Pointwise

/-! # The reference's quantiser, and the two bodies' payloads against each other -/

/-- The powers of two compared with. -/
theorem pows_of (k : Fin 246) : exp2 (F := Ideal) (sitofp .f32 (subi (iota .tc S1x246 32 [1] iota_S1x246_d1_w32)
    (broadcast S1x246 126#32))) (ix2 0 k) = Quant.refPow k.val := by
  pointwise []
  have key : ∀ k : Fin 246, (IntOp.subi (BitVec.ofNat 32 k.val) 126#32).toInt = (k.val : ℤ) - 126 := by decide +kernel
  show Ideal.exp2 (((IntOp.subi (BitVec.ofNat 32 k.val) 126#32).toInt : ℝ) : EReal) = _
  rw [key]
  rfl

/-- The greatest power at or below. -/
theorem below_of (y : FVec Ideal S1024x1 .f32) (p : FVec Ideal S1x246 .f32) (v : FVec Ideal S1024 .f32)
    (hv : v = multiReduction (F := Ideal) .maximumf [1] S1024 (select (cmpf .oge (broadcastTo S1024x246 y broadcasts_S1024x1_S1024x246)
        (broadcastTo S1024x246 p broadcasts_S1x246_S1024x246))
      (broadcastTo S1024x246 (shapeCast S1x246 p shapeCasts_S1x246_S1x246) broadcasts_S1x246_S1024x246)
      (broadcast S1024x246 (Scalar.ofBits .f32 0x00000000#32)))
      0xFF800000#32 reduces_S1024x246_S1024 (.inl rfl) rfl)
    (hp : ∀ k : Fin 246, p (ix2 0 k) = Quant.refPow k.val) (S : Fin 1024) :
    shapeCast S1024x1 v shapeCasts_S1024_S1024x1 (ix2 S 0) = Quant.below (y (ix2 S 0)) := by
  have h : v (ix1 S) = Quant.below (y (ix2 S 0)) := by
    rw [hv]
    pointwise []
    simp only [hp, Cert.ReferenceIdeal.Gen.negInf]
    unfold Quant.below
    congr
  pointwise []
  exact h

/-- One where nothing is below, twice the greatest power below elsewhere. -/
theorem scale_of (v : FVec Ideal S1024x1 .f32) (i : EReal) (S : Fin 1024) (hv : v (ix2 S 0) = Quant.below i) :
    select (cmpf .oeq v (broadcast S1024x1 (Scalar.ofBits .f32 0x00000000#32)))
      (broadcast S1024x1 (Scalar.ofBits .f32 0x3F800000#32))
      (mulf (broadcast S1024x1 (Scalar.ofBits .f32 0x40000000#32)) v) (ix2 S 0) = Quant.scale i := by
  pointwise []
  rw [hv, Cert.ReferenceIdeal.Gen.two]
  unfold Quant.scale
  congr

/-- The scales by comparison are the scales by search. -/
theorem pay9_at (u w : FVec Ideal S1024x1 .f32) (S : Fin 1024) :
    k0_pay9 (F := Ideal) u w (ix2 S 0) = Quant.scale (mulf (F := Ideal) u w (ix2 S 0)) := by
  unfold k0_pay9
  exact scale_of _ _ S (below_of _ _ _ rfl pows_of S)

theorem pay9_eq (v : FVec Ideal S1024x256 .f32) (u w : FVec Ideal S1024x1 .f32)
    (h : mulf u w = Cert.PrepIdeal.Gen.k0_pay14 (F := Ideal) v) :
    k0_pay9 (F := Ideal) u w = Quant.scaleV (Quant.fieldV (Cert.PrepIdeal.Gen.k0_pay14 (F := Ideal) v)) := by
  funext y
  obtain ⟨S, z, rfl⟩ : ∃ (S : Fin 1024) (z : Fin 1), y = ix2 S z := ⟨y 0, y 1, eq_ix2 y⟩
  obtain rfl : z = 0 := Subsingleton.elim _ _
  rw [pay9_at, Quant.scaleV_at, h]

theorem pay5_eq (a b : Vec Ideal S1024x256 .bf16) :
    k0_pay5 (F := Ideal) a b = Quant.scaleV (Quant.fieldV (Cert.PrepIdeal.Gen.k0_pay6 (F := Ideal) a b)) := by
  funext y
  obtain ⟨S, z, rfl⟩ : ∃ (S : Fin 1024) (z : Fin 1), y = ix2 S z := ⟨y 0, y 1, eq_ix2 y⟩
  obtain rfl : z = 0 := Subsingleton.elim _ _
  rw [Quant.scaleV_at]
  unfold k0_pay5
  exact scale_of _ _ S (below_of _ _ _ rfl pows_of S)

/-- One over the searched scales, as the reference spells it. -/
theorem inverse_eq (y : FVec Ideal S1024x1 .f32) :
    divf (broadcast S1024x1 (Scalar.ofBits (F := Ideal) .f32 0x3F800000#32)) (Quant.scaleV (Quant.fieldV y)) = Quant.inverseV (Quant.fieldV y) := by
  funext i
  rw [Quant.inverseV_at, ← Quant.scaleV_at]
  obtain ⟨S, z, rfl⟩ : ∃ (S : Fin 1024) (z : Fin 1), i = ix2 S z := ⟨i 0, i 1, eq_ix2 i⟩
  generalize Quant.scaleV (Quant.fieldV y) = s
  pointwise []

theorem pay6_eq (a b : Vec Ideal S1024x256 .bf16) :
    k0_pay6 (F := Ideal) a b = Cert.PrepIdeal.Gen.k0_pay13 (F := Ideal) (Cert.PrepIdeal.Gen.k0_pay5 a b)
      (broadcastTo Cert.PrepIdeal.S1024x256 (Quant.inverseV (Quant.fieldV (Cert.PrepIdeal.Gen.k0_pay6 (F := Ideal) a b))) Cert.PrepIdeal.Gen.broadcasts_S1024x1_S1024x256) := by
  unfold k0_pay6
  rw [pay5_eq]
  exact congrArg (fun q => Cert.PrepIdeal.Gen.k0_pay13 (F := Ideal) (Cert.PrepIdeal.Gen.k0_pay5 a b)
    (broadcastTo Cert.PrepIdeal.S1024x256 q Cert.PrepIdeal.Gen.broadcasts_S1024x1_S1024x256)) (inverse_eq _)

theorem pay10_eq (v : FVec Ideal S1024x256 .f32) (u w : FVec Ideal S1024x1 .f32)
    (h : mulf u w = Cert.PrepIdeal.Gen.k0_pay14 (F := Ideal) v) :
    k0_pay10 (F := Ideal) v u w = Cert.PrepIdeal.Gen.k0_pay21 (F := Ideal) (mulf v
      (broadcastTo Cert.PrepIdeal.S1024x256 (Quant.inverseV (Quant.fieldV (Cert.PrepIdeal.Gen.k0_pay14 (F := Ideal) v))) Cert.PrepIdeal.Gen.broadcasts_S1024x1_S1024x256)) := by
  unfold k0_pay10
  rw [pay9_eq v u w h]
  exact congrArg (fun q => Cert.PrepIdeal.Gen.k0_pay21 (F := Ideal) (mulf v
    (broadcastTo Cert.PrepIdeal.S1024x256 q Cert.PrepIdeal.Gen.broadcasts_S1024x1_S1024x256))) (inverse_eq _)

/-- The reference's row of scales is its column transposed. -/
theorem pay11_at (s : FVec Ideal S1024x1 .f32) (S : Fin 1024) : k0_pay11 (F := Ideal) s (ix2 0 S) = s (ix2 S 0) := by
  pointwise [k0_pay11]

theorem pay12_at (u w : FVec Ideal S1024x1 .f32) (S : Fin 1024) :
    k0_pay12 (F := Ideal) u w (ix2 0 S) = k0_pay9 (F := Ideal) u w (ix2 S 0) :=
  pay11_at _ S

theorem row_sum (a b : Vec Ideal S1024x256 .bf16) : k0_pay11 (F := Ideal) (k0_pay5 a b)
    = Quant.scaleV (Quant.fieldV (Cert.PrepIdeal.Gen.k0_pay22 (F := Ideal) (Cert.PrepIdeal.Gen.k0_pay5 a b))) := by
  funext y
  obtain ⟨z, S, rfl⟩ : ∃ (z : Fin 1) (S : Fin 1024), y = ix2 z S := ⟨y 0, y 1, eq_ix2 y⟩
  obtain rfl : z = 0 := Subsingleton.elim _ _
  rw [pay11_at, pay5_eq]
  exact (Cert.PrepIdeal.Gen.scales_row _ _ (Cert.PrepIdeal.Gen.peaks_sum a b) S).symm

theorem row_single (v : FVec Ideal S1024x256 .f32) (u w : FVec Ideal S1024x1 .f32)
    (h : mulf u w = Cert.PrepIdeal.Gen.k0_pay14 (F := Ideal) v) : k0_pay12 (F := Ideal) u w
    = Quant.scaleV (Quant.fieldV (Cert.PrepIdeal.Gen.k0_pay28 (F := Ideal) (Cert.PrepIdeal.Gen.k0_pay27 v))) := by
  funext y
  obtain ⟨z, S, rfl⟩ : ∃ (z : Fin 1) (S : Fin 1024), y = ix2 z S := ⟨y 0, y 1, eq_ix2 y⟩
  obtain rfl : z = 0 := Subsingleton.elim _ _
  rw [pay12_at, pay9_eq v u w h]
  exact (Cert.PrepIdeal.Gen.scales_row _ _ (Cert.PrepIdeal.Gen.peaks_single v) S).symm

end Cert.PrepReferenceIdeal.Gen
end
-- ==== Proof.PrepOuts.lean ====
module

public import Idealize.ShloMosaic.Lib.Pipeline.ValueKit
public import proofs.«01_k».proof.Proof.PrepSame

@[expose] public section

set_option maxRecDepth 65536

noncomputable section

namespace Cert.PrepReferenceIdeal.Gen

open Idealize.ShloMosaic Idealize.ShloMosaic.TcCoe Idealize.ShloMosaic.Tactic
open Idealize.SL Idealize.SL.Sem
open Idealize.ShloMosaic.Pointwise

/-! # The two bodies store the same eleven blocks -/

/-- The kernel's split query code rows, against the reference's concatenation. -/
theorem split_at (n : Fin 6) (e : Fin 128) (S : Fin 1024) (s : FVec Ideal S1024x1 .f32) (q : FVec Ideal S1024x256 .fp8e4m3)
    (W : Vec Ideal S256x128 .fp8e4m3) (a b : Vec Ideal S1x128 .f32) (P : FVec Ideal S128x1024 .bf16)
    (hP : P = ![Cert.PrepIdeal.Gen.k0_pay39 (F := Ideal) s q W a b, Cert.PrepIdeal.Gen.k0_pay40 (F := Ideal) s q W a b,
      Cert.PrepIdeal.Gen.k0_pay39 (F := Ideal) s q W a b, Cert.PrepIdeal.Gen.k0_pay40 (F := Ideal) s q W a b,
      Cert.PrepIdeal.Gen.k0_pay41 (F := Ideal) s q W a b, Cert.PrepIdeal.Gen.k0_pay39 (F := Ideal) s q W a b] n) :
    P (ix2 e S) = k0_pay18 (F := Ideal) (k0_pay15 s q W a b) (k0_pay16 s q W a b) (k0_pay17 s q W a b) (ix2 ⟨128 * n.val + e.val, by omega⟩ S) := by
  have h35 : Cert.PrepIdeal.Gen.k0_pay35 (F := Ideal) s q W a b
      = transpose S128x1024 [1, 0] (k0_pay15 (F := Ideal) s q W a b) Cert.PrepIdeal.Gen.transposes_S1024x128_p1_0_S128x1024 := rfl
  subst hP
  unfold Cert.PrepIdeal.Gen.k0_pay39 Cert.PrepIdeal.Gen.k0_pay40 Cert.PrepIdeal.Gen.k0_pay41 Cert.PrepIdeal.Gen.k0_pay38
    Cert.PrepIdeal.Gen.k0_pay37 Cert.PrepIdeal.Gen.k0_pay36 k0_pay17 k0_pay16
  rw [h35]
  generalize k0_pay15 (F := Ideal) s q W a b = O
  have key : ∀ (j : ℕ) (hj : j < 128), j = e.val → O (ix2 S ⟨j, hj⟩) = O (ix2 S e) := by
    intro j hj h; subst h; rfl
  fin_cases n <;> pointwise [k0_pay18] <;> split_ifs <;> first
    | (exfalso; omega)
    | exact (key _ _ (by omega)).symm
    | exact (congrArg (fun z => z - z) (key _ _ (by omega))).symm
    | exact (congrArg (fun z => z - z - (z - z)) (key _ _ (by omega))).symm

/-- The centred value rows and what their narrowing loses, side by side. -/
def pair (D : FVec Ideal S128x256 .f32) : FVec Ideal S256x256 .bf16 :=
  transpose S256x256 [1, 0] (concatenate S256x256 0 [⟨S128x256, truncf (F := Ideal) .bf16 D bitsLt_bf16_f32⟩,
    ⟨S128x256, truncf (F := Ideal) .bf16 (subf D (extf .f32 (truncf (F := Ideal) .bf16 D bitsLt_bf16_f32) bitsLt_bf16_f32)) bitsLt_bf16_f32⟩]
    concatenates_S128x256_S128x256_S256x256_d0) transposes_S256x256_p1_0_S256x256

theorem pair_fst (D : FVec Ideal S128x256 .f32) (k : Fin 256) (j : Fin 128) :
    pair D (ix2 k ⟨j.val, by omega⟩) = transpose Cert.PrepIdeal.S256x128 [1, 0] D Cert.PrepIdeal.Gen.transposes_S128x256_p1_0_S256x128 (ix2 k j) := by
  pointwise [pair]

theorem pair_snd (D : FVec Ideal S128x256 .f32) (k : Fin 256) (j : Fin 128) :
    pair D (ix2 k ⟨128 + j.val, by omega⟩) = D (ix2 j k) - D (ix2 j k) := by
  pointwise [pair]

/-- The kernel's value rows, against the reference's concatenation. -/
theorem values_fst (w : Vec Ideal S128x256 .fp8e4m3) (s : Vec Ideal S1x256 .f32) (k : Fin 256) (j : Fin 128) :
    Cert.PrepIdeal.Gen.k0_pay44 (F := Ideal) w s (ix2 k j) = k0_pay20 (F := Ideal) w s (ix2 k ⟨j.val, by omega⟩) := by
  refine Eq.trans ?_ (pair_fst _ k j).symm
  rfl

theorem values_snd (w : Vec Ideal S128x256 .fp8e4m3) (s : Vec Ideal S1x256 .f32) (k : Fin 256) (j : Fin 128) :
    Cert.PrepIdeal.Gen.k0_pay1 (F := Ideal) (Cert.PrepIdeal.Gen.k0_pay45 w s) (ix2 k j) = k0_pay20 (F := Ideal) w s (ix2 k ⟨128 + j.val, by omega⟩) := by
  refine Eq.trans ?_ (pair_snd _ k j).symm
  have h43 : ∀ D : FVec Ideal S128x256 .f32, transpose Cert.PrepIdeal.S256x128 [1, 0] D Cert.PrepIdeal.Gen.transposes_S128x256_p1_0_S256x128 (ix2 k j) = D (ix2 j k) := by
    intro D
    pointwise []
  unfold Cert.PrepIdeal.Gen.k0_pay1 Cert.PrepIdeal.Gen.k0_pay45 Cert.PrepIdeal.Gen.k0_pay44 Cert.PrepIdeal.Gen.k0_pay43
  exact congrArg (fun z => z - z) (h43 _)

section blocks
variable (x0 : Vec Ideal S1024x256 .bf16) (x1 : Vec Ideal S1024x256 .bf16) (x2 : Vec Ideal S256x128 .fp8e4m3) (x3 : Vec Ideal S1x128 .f32) (x4 : Vec Ideal S256x128 .fp8e4m3) (x5 : Vec Ideal S1x128 .f32) (x6 : Vec Ideal S1x128 .f32) (x7 : Vec Ideal S256x128 .fp8e4m3) (x8 : Vec Ideal S1x128 .f32) (x9 : Vec Ideal S1x128 .f32) (x10 : Vec Ideal S128x256 .fp8e4m3) (x11 : Vec Ideal S1x256 .f32) (x12 : Vec Ideal S1x256 .f32) (x13 : Vec Ideal S1x256 .f32) (x14 : Vec Ideal S1x256 .f32)

/-- The scales and the codes of the image with its position, and of the image. -/
theorem same_scale : Cert.PrepIdeal.Gen.k0_pay52 (F := Ideal) x0 x1 x2 x3 x4 x5 x6 x7 x8 x9 x10 x11 x12 x13 x14 = k0_pay22 (F := Ideal) x0 x1 x2 x3 x4 x5 x6 x7 x8 x9 x10 x11 x12 x13 x14 := by
  unfold k0_pay22
  exact (Cert.PrepIdeal.Gen.pay11_eq _ _).trans (pay5_eq _ _).symm

theorem same_codes : Cert.PrepIdeal.Gen.k0_pay53 (F := Ideal) x0 x1 x2 x3 x4 x5 x6 x7 x8 x9 x10 x11 x12 x13 x14 = k0_pay23 (F := Ideal) x0 x1 x2 x3 x4 x5 x6 x7 x8 x9 x10 x11 x12 x13 x14 := by
  unfold k0_pay23
  exact (congrArg (Cert.PrepIdeal.Gen.k0_pay13 (F := Ideal) _) (Cert.PrepIdeal.Gen.pay12_eq _ _)).trans (pay6_eq _ _).symm

theorem same_image_scale : Cert.PrepIdeal.Gen.k0_pay19 (F := Ideal) (Cert.PrepIdeal.Gen.k0_pay54 x0 x1 x2 x3 x4 x5 x6 x7 x8 x9 x10 x11 x12 x13 x14) (Cert.PrepIdeal.Gen.k0_pay55 x0 x1 x2 x3 x4 x5 x6 x7 x8 x9 x10 x11 x12 x13 x14) (Cert.PrepIdeal.Gen.k0_pay56 x0 x1 x2 x3 x4 x5 x6 x7 x8 x9 x10 x11 x12 x13 x14) (Cert.PrepIdeal.Gen.k0_pay57 x0 x1 x2 x3 x4 x5 x6 x7 x8 x9 x10 x11 x12 x13 x14)
    = k0_pay9 (F := Ideal) (k0_pay24 x0 x1 x2 x3 x4 x5 x6 x7 x8 x9 x10 x11 x12 x13 x14) (k0_pay25 x0 x1 x2 x3 x4 x5 x6 x7 x8 x9 x10 x11 x12 x13 x14) :=
  (Cert.PrepIdeal.Gen.pay19_eq _).trans (pay9_eq _ _ _ rfl).symm

theorem same_image_codes : Cert.PrepIdeal.Gen.k0_pay21 (F := Ideal) (Cert.PrepIdeal.Gen.k0_pay58 x0 x1 x2 x3 x4 x5 x6 x7 x8 x9 x10 x11 x12 x13 x14)
    = k0_pay10 (F := Ideal) (k0_pay21 x0 x1 x2 x3 x4 x5 x6 x7 x8 x9 x10 x11 x12 x13 x14) (k0_pay24 x0 x1 x2 x3 x4 x5 x6 x7 x8 x9 x10 x11 x12 x13 x14) (k0_pay25 x0 x1 x2 x3 x4 x5 x6 x7 x8 x9 x10 x11 x12 x13 x14) :=
  (congrArg (Cert.PrepIdeal.Gen.k0_pay21 (F := Ideal)) (Cert.PrepIdeal.Gen.pay20_eq _)).trans (pay10_eq _ _ _ rfl).symm

theorem same15 : Cert.PrepIdeal.Gen.out0_15 (F := Ideal) x0 x1 x2 x3 x4 x5 x6 x7 x8 x9 x10 x11 x12 x13 x14 = out0_15 (F := Ideal) x0 x1 x2 x3 x4 x5 x6 x7 x8 x9 x10 x11 x12 x13 x14 := by
  unfold Cert.PrepIdeal.Gen.out0_15 out0_15
  rw [same_codes]

theorem same16 : Cert.PrepIdeal.Gen.out0_16 (F := Ideal) x0 x1 x2 x3 x4 x5 x6 x7 x8 x9 x10 x11 x12 x13 x14 = out0_16 (F := Ideal) x0 x1 x2 x3 x4 x5 x6 x7 x8 x9 x10 x11 x12 x13 x14 := by
  unfold Cert.PrepIdeal.Gen.out0_16 out0_16
  rw [Cert.PrepIdeal.Gen.pay26_eq]
  exact congrArg (fun p => View.canon [(⟨r0_1, p⟩ : View.Piece (Elt Ideal) S1x1024 .f32)]) (row_sum _ _).symm

theorem same17 : Cert.PrepIdeal.Gen.out0_17 (F := Ideal) x0 x1 x2 x3 x4 x5 x6 x7 x8 x9 x10 x11 x12 x13 x14 = out0_17 (F := Ideal) x0 x1 x2 x3 x4 x5 x6 x7 x8 x9 x10 x11 x12 x13 x14 := by
  unfold Cert.PrepIdeal.Gen.out0_17 out0_17
  rw [same_image_codes]

theorem same18 : Cert.PrepIdeal.Gen.out0_18 (F := Ideal) x0 x1 x2 x3 x4 x5 x6 x7 x8 x9 x10 x11 x12 x13 x14 = out0_18 (F := Ideal) x0 x1 x2 x3 x4 x5 x6 x7 x8 x9 x10 x11 x12 x13 x14 := by
  unfold Cert.PrepIdeal.Gen.out0_18 out0_18
  rw [Cert.PrepIdeal.Gen.pay32_eq]
  exact congrArg (fun p => View.canon [(⟨r0_1, p⟩ : View.Piece (Elt Ideal) S1x1024 .f32)]) (row_single _ _ _ rfl).symm

theorem same19 : Cert.PrepIdeal.Gen.out0_19 (F := Ideal) x0 x1 x2 x3 x4 x5 x6 x7 x8 x9 x10 x11 x12 x13 x14 = out0_19 (F := Ideal) x0 x1 x2 x3 x4 x5 x6 x7 x8 x9 x10 x11 x12 x13 x14 := by
  unfold Cert.PrepIdeal.Gen.out0_19 out0_19
  rw [same_scale, same_codes]
  rfl

theorem same20 : Cert.PrepIdeal.Gen.out0_20 (F := Ideal) x0 x1 x2 x3 x4 x5 x6 x7 x8 x9 x10 x11 x12 x13 x14 = out0_20 (F := Ideal) x0 x1 x2 x3 x4 x5 x6 x7 x8 x9 x10 x11 x12 x13 x14 := by
  unfold Cert.PrepIdeal.Gen.out0_20 out0_20
  rw [same_image_scale, same_image_codes]
  rfl

theorem same21 : Cert.PrepIdeal.Gen.out0_21 (F := Ideal) x0 x1 x2 x3 x4 x5 x6 x7 x8 x9 x10 x11 x12 x13 x14 = out0_21 (F := Ideal) x0 x1 x2 x3 x4 x5 x6 x7 x8 x9 x10 x11 x12 x13 x14 := by
  unfold Cert.PrepIdeal.Gen.out0_21 out0_21 Cert.PrepIdeal.Gen.k0_pay60
  rw [same_scale, same_codes]
  generalize k0_pay22 (F := Ideal) x0 x1 x2 x3 x4 x5 x6 x7 x8 x9 x10 x11 x12 x13 x14 = s
  generalize k0_pay23 (F := Ideal) x0 x1 x2 x3 x4 x5 x6 x7 x8 x9 x10 x11 x12 x13 x14 = q
  rw [View.canon_cons_unit_lit _ _ _ (by decide)]
  funext y
  refine View.canon_apply_of_pieces _ _ ?_ y (Cert.PrepIdeal.Gen.cover0_21 _ _ _ _ _ _ y)
  intro pc hpc
  have emb : ∀ (o : ℕ) (h : ∀ a, ![o, 0] a + Cert.PrepIdeal.S128x1024.size a ≤ Cert.PrepIdeal.S768x1024.size a) (e : Fin 128) (S : Fin 1024) (ho : o + e.val < 768),
      (Rect.unit (s := Cert.PrepIdeal.S768x1024) ![o, 0] Cert.PrepIdeal.S128x1024.size h).emb (ix2 e S) = ix2 ⟨o + e.val, ho⟩ S := by
    intro o h e S ho
    funext a
    refine Fin.ext ?_
    match a with
    | ⟨0, _⟩ => show o + 1 * e.val = o + e.val; omega
    | ⟨1, _⟩ => show 0 + 1 * S.val = S.val; omega
  simp only [List.mem_cons, List.not_mem_nil, or_false] at hpc
  rcases hpc with rfl | rfl | rfl | rfl | rfl | rfl <;> intro x <;>
    obtain ⟨e, S, rfl⟩ : ∃ (e : Fin 128) (S : Fin 1024), x = ix2 e S := ⟨x 0, x 1, eq_ix2 x⟩
  · exact (split_at 5 e S _ _ _ _ _ _ rfl).trans (congrArg _ (emb 640 Cert.PrepIdeal.Gen.inb_S768x1024_S128x1024_640_0 e S (by omega)).symm)
  · exact (split_at 4 e S _ _ _ _ _ _ rfl).trans (congrArg _ (emb 512 Cert.PrepIdeal.Gen.inb_S768x1024_S128x1024_512_0 e S (by omega)).symm)
  · exact (split_at 3 e S _ _ _ _ _ _ rfl).trans (congrArg _ (emb 384 Cert.PrepIdeal.Gen.inb_S768x1024_S128x1024_384_0 e S (by omega)).symm)
  · exact (split_at 2 e S _ _ _ _ _ _ rfl).trans (congrArg _ (emb 256 Cert.PrepIdeal.Gen.inb_S768x1024_S128x1024_256_0 e S (by omega)).symm)
  · exact (split_at 1 e S _ _ _ _ _ _ rfl).trans (congrArg _ (emb 128 Cert.PrepIdeal.Gen.inb_S768x1024_S128x1024_128_0 e S (by omega)).symm)
  · exact (split_at 0 e S _ _ _ _ _ _ rfl).trans (congrArg _ (emb 0 Cert.PrepIdeal.Gen.inb_S768x1024_S128x1024_0_0 e S (by omega)).symm)

theorem same22 : Cert.PrepIdeal.Gen.out0_22 (F := Ideal) x0 x1 x2 x3 x4 x5 x6 x7 x8 x9 x10 x11 x12 x13 x14 = out0_22 (F := Ideal) x0 x1 x2 x3 x4 x5 x6 x7 x8 x9 x10 x11 x12 x13 x14 := by
  unfold Cert.PrepIdeal.Gen.out0_22 out0_22
  rfl

theorem same23 : Cert.PrepIdeal.Gen.out0_23 (F := Ideal) x0 x1 x2 x3 x4 x5 x6 x7 x8 x9 x10 x11 x12 x13 x14 = out0_23 (F := Ideal) x0 x1 x2 x3 x4 x5 x6 x7 x8 x9 x10 x11 x12 x13 x14 := by
  unfold Cert.PrepIdeal.Gen.out0_23 out0_23
  rw [View.canon_cons_unit_lit _ _ _ (by decide)]
  funext y
  refine View.canon_apply_of_pieces _ _ ?_ y (Cert.PrepIdeal.Gen.cover0_23 _ _ y)
  intro pc hpc
  have emb : ∀ (o : ℕ) (h : ∀ a, ![0, o] a + Cert.PrepIdeal.S256x128.size a ≤ Cert.PrepIdeal.S256x256.size a) (k : Fin 256) (j : Fin 128) (ho : o + j.val < 256),
      (Rect.unit (s := Cert.PrepIdeal.S256x256) ![0, o] Cert.PrepIdeal.S256x128.size h).emb (ix2 k j) = ix2 k ⟨o + j.val, ho⟩ := by
    intro o h k j ho
    funext a
    refine Fin.ext ?_
    match a with
    | ⟨0, _⟩ => show 0 + 1 * k.val = k.val; omega
    | ⟨1, _⟩ => show o + 1 * j.val = o + j.val; omega
  simp only [List.mem_cons, List.not_mem_nil, or_false] at hpc
  rcases hpc with rfl | rfl <;> intro x <;>
    obtain ⟨k, j, rfl⟩ : ∃ (k : Fin 256) (j : Fin 128), x = ix2 k j := ⟨x 0, x 1, eq_ix2 x⟩
  · exact (values_snd _ _ k j).trans (congrArg _ (emb 128 Cert.PrepIdeal.Gen.inb_S256x256_S256x128_0_128 k j (by omega)).symm)
  · refine (values_fst _ _ k j).trans (congrArg _ (Eq.trans ?_ (emb 0 Cert.PrepIdeal.Gen.inb_S256x256_S256x128_0_0 k j (by omega)).symm))
    exact congrArg (ix2 k) (Fin.ext (Nat.zero_add _).symm)

theorem same24 : Cert.PrepIdeal.Gen.out0_24 (F := Ideal) x0 x1 x2 x3 x4 x5 x6 x7 x8 x9 x10 x11 x12 x13 x14 = out0_24 (F := Ideal) x0 x1 x2 x3 x4 x5 x6 x7 x8 x9 x10 x11 x12 x13 x14 := by
  unfold Cert.PrepIdeal.Gen.out0_24 out0_24
  rfl

theorem same25 : Cert.PrepIdeal.Gen.out0_25 (F := Ideal) x0 x1 x2 x3 x4 x5 x6 x7 x8 x9 x10 x11 x12 x13 x14 = out0_25 (F := Ideal) x0 x1 x2 x3 x4 x5 x6 x7 x8 x9 x10 x11 x12 x13 x14 := by
  unfold Cert.PrepIdeal.Gen.out0_25 out0_25
  rfl

end blocks

end Cert.PrepReferenceIdeal.Gen
end
-- ==== Proof.PrepResult.lean ====
module

public import Idealize.ShloMosaic.Lib.StableHlo.RunClose
public import Idealize.ShloMosaic.Lib.Pipeline.ValueKit
public import proofs.«01_k».proof.Proof.PrepRow
public import proofs.«01_k».proof.Proof.PrepOuts

@[expose] public section

set_option maxRecDepth 65536

noncomputable section

namespace Cert.PrepIdeal.Gen

open Idealize.ShloMosaic Idealize.ShloMosaic.TcCoe Idealize.ShloMosaic.Tactic
open Idealize.SL Idealize.SL.Sem
open Idealize.ShloMosaic.Pointwise

/-! # The results of the preparing kernel after the run -/

variable (m : (ℓ : Loc nD τ sig) → Buf (Elt Ideal) ℓ) (c : Dev nD)

/-- Every operand's block at the one point is the first. -/
theorem index_zero : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

theorem block0 : iblk m c 0 t0_0 = V m c main_arg0 := by
  blk_ext! [iblk, index_zero t0_0]
theorem block1 : iblk m c 1 t0_0 = V m c main_arg1 := by
  blk_ext! [iblk, index_zero t0_0]
theorem block2 : iblk m c 2 t0_0 = V m c main_arg2 := by
  blk_ext! [iblk, index_zero t0_0]
theorem block3 : iblk m c 3 t0_0 = V m c main_v0 := by
  blk_ext! [iblk, index_zero t0_0]
theorem block4 : iblk m c 4 t0_0 = V m c main_arg4 := by
  blk_ext! [iblk, index_zero t0_0]
theorem block5 : iblk m c 5 t0_0 = V m c main_v1 := by
  blk_ext! [iblk, index_zero t0_0]
theorem block6 : iblk m c 6 t0_0 = V m c main_v2 := by
  blk_ext! [iblk, index_zero t0_0]
theorem block7 : iblk m c 7 t0_0 = V m c main_arg7 := by
  blk_ext! [iblk, index_zero t0_0]
theorem block8 : iblk m c 8 t0_0 = V m c main_v3 := by
  blk_ext! [iblk, index_zero t0_0]
theorem block9 : iblk m c 9 t0_0 = V m c main_v4 := by
  blk_ext! [iblk, index_zero t0_0]
theorem block10 : iblk m c 10 t0_0 = V m c main_arg10 := by
  blk_ext! [iblk, index_zero t0_0]
theorem block11 : iblk m c 11 t0_0 = V m c main_v5 := by
  blk_ext! [iblk, index_zero t0_0]
theorem block12 : iblk m c 12 t0_0 = V m c main_v6 := by
  blk_ext! [iblk, index_zero t0_0]
theorem block13 : iblk m c 13 t0_0 = V m c main_v7 := by
  blk_ext! [iblk, index_zero t0_0]
theorem block14 : iblk m c 14 t0_0 = V m c main_v8 := by
  blk_ext! [iblk, index_zero t0_0]

/-! The rows the host lays out. -/

theorem r128_eq (v : FVec Ideal S128 .f32) : shapeCast S1x128 v shapeCasts_S128_S1x128 = Row.r128 v := by
  funext y
  obtain ⟨i, j, rfl⟩ : ∃ (i : Fin 1) (j : Fin 128), y = ix2 i j := ⟨y 0, y 1, eq_ix2 y⟩
  obtain rfl : i = 0 := Subsingleton.elim _ _
  pointwise [Row.r128]
theorem r256_eq (v : FVec Ideal S256 .f32) : shapeCast S1x256 v shapeCasts_S256_S1x256 = Row.r256 v := by
  funext y
  obtain ⟨i, j, rfl⟩ : ∃ (i : Fin 1) (j : Fin 256), y = ix2 i j := ⟨y 0, y 1, eq_ix2 y⟩
  obtain rfl : i = 0 := Subsingleton.elim _ _
  pointwise [Row.r256]
theorem V_main_v0 : V m c main_v0 = Row.r128 (m ((c.tc : Thread nD τ).loc main_arg3)) := by
  refine Eq.trans (b := shapeCast S1x128 (m ((c.tc : Thread nD τ).loc main_arg3)) shapeCasts_S128_S1x128) ?_ (r128_eq _)
  show StableHlo.after _ _ _ = _
  after_results_entrywise (rounds := 1) []
theorem V_main_v1 : V m c main_v1 = Row.r128 (m ((c.tc : Thread nD τ).loc main_arg5)) := by
  refine Eq.trans (b := shapeCast S1x128 (m ((c.tc : Thread nD τ).loc main_arg5)) shapeCasts_S128_S1x128) ?_ (r128_eq _)
  show StableHlo.after _ _ _ = _
  after_results_entrywise (rounds := 1) []
theorem V_main_v2 : V m c main_v2 = Row.r128 (m ((c.tc : Thread nD τ).loc main_arg6)) := by
  refine Eq.trans (b := shapeCast S1x128 (m ((c.tc : Thread nD τ).loc main_arg6)) shapeCasts_S128_S1x128) ?_ (r128_eq _)
  show StableHlo.after _ _ _ = _
  after_results_entrywise (rounds := 1) []
theorem V_main_v3 : V m c main_v3 = Row.r128 (m ((c.tc : Thread nD τ).loc main_arg8)) := by
  refine Eq.trans (b := shapeCast S1x128 (m ((c.tc : Thread nD τ).loc main_arg8)) shapeCasts_S128_S1x128) ?_ (r128_eq _)
  show StableHlo.after _ _ _ = _
  after_results_entrywise (rounds := 1) []
theorem V_main_v4 : V m c main_v4 = Row.r128 (m ((c.tc : Thread nD τ).loc main_arg9)) := by
  refine Eq.trans (b := shapeCast S1x128 (m ((c.tc : Thread nD τ).loc main_arg9)) shapeCasts_S128_S1x128) ?_ (r128_eq _)
  show StableHlo.after _ _ _ = _
  after_results_entrywise (rounds := 1) []
theorem V_main_v5 : V m c main_v5 = Row.r256 (m ((c.tc : Thread nD τ).loc main_arg11)) := by
  refine Eq.trans (b := shapeCast S1x256 (m ((c.tc : Thread nD τ).loc main_arg11)) shapeCasts_S256_S1x256) ?_ (r256_eq _)
  show StableHlo.after _ _ _ = _
  after_results_entrywise (rounds := 1) []
theorem V_main_v6 : V m c main_v6 = Row.r256 (m ((c.tc : Thread nD τ).loc main_arg12)) := by
  refine Eq.trans (b := shapeCast S1x256 (m ((c.tc : Thread nD τ).loc main_arg12)) shapeCasts_S256_S1x256) ?_ (r256_eq _)
  show StableHlo.after _ _ _ = _
  after_results_entrywise (rounds := 1) []
theorem V_main_v7 : V m c main_v7 = Row.r256 (m ((c.tc : Thread nD τ).loc main_arg13)) := by
  refine Eq.trans (b := shapeCast S1x256 (m ((c.tc : Thread nD τ).loc main_arg13)) shapeCasts_S256_S1x256) ?_ (r256_eq _)
  show StableHlo.after _ _ _ = _
  after_results_entrywise (rounds := 1) []
theorem V_main_v8 : V m c main_v8 = Row.r256 (m ((c.tc : Thread nD τ).loc main_arg14)) := by
  refine Eq.trans (b := shapeCast S1x256 (m ((c.tc : Thread nD τ).loc main_arg14)) shapeCasts_S256_S1x256) ?_ (r256_eq _)
  show StableHlo.after _ _ _ = _
  after_results_entrywise (rounds := 1) []

/-! The arrays the run leaves, from the launched arguments. -/

def final15 := Cert.PrepReferenceIdeal.Gen.out0_15 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final16 := Cert.PrepReferenceIdeal.Gen.out0_16 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final17 := Cert.PrepReferenceIdeal.Gen.out0_17 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final18 := Cert.PrepReferenceIdeal.Gen.out0_18 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final19 := Cert.PrepReferenceIdeal.Gen.out0_19 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final20 := Cert.PrepReferenceIdeal.Gen.out0_20 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final21 := Cert.PrepReferenceIdeal.Gen.out0_21 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final22 := Cert.PrepReferenceIdeal.Gen.out0_22 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final23 := Cert.PrepReferenceIdeal.Gen.out0_23 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final24 := Cert.PrepReferenceIdeal.Gen.out0_24 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final25 := Cert.PrepReferenceIdeal.Gen.out0_25 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))

theorem final15_eq : (dats m 0 c).arrAt 15 cfg0.N = final15 m c := by
  refine (dats m 0 c).arrAt_eq_of_after_last 15 t0_0 (by decide +kernel) _ fun j => ?_
  blk_simp
  rw [after0_15, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same15]
  rfl
theorem final16_eq : (dats m 0 c).arrAt 16 cfg0.N = final16 m c := by
  refine (dats m 0 c).arrAt_eq_of_after_last 16 t0_0 (by decide +kernel) _ fun j => ?_
  blk_simp
  rw [after0_16, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same16]
  rfl
theorem final17_eq : (dats m 0 c).arrAt 17 cfg0.N = final17 m c := by
  refine (dats m 0 c).arrAt_eq_of_after_last 17 t0_0 (by decide +kernel) _ fun j => ?_
  blk_simp
  rw [after0_17, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same17]
  rfl
theorem final18_eq : (dats m 0 c).arrAt 18 cfg0.N = final18 m c := by
  refine (dats m 0 c).arrAt_eq_of_after_last 18 t0_0 (by decide +kernel) _ fun j => ?_
  blk_simp
  rw [after0_18, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same18]
  rfl
theorem final19_eq : (dats m 0 c).arrAt 19 cfg0.N = final19 m c := by
  refine (dats m 0 c).arrAt_eq_of_after_last 19 t0_0 (by decide +kernel) _ fun j => ?_
  blk_simp
  rw [after0_19, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same19]
  rfl
theorem final20_eq : (dats m 0 c).arrAt 20 cfg0.N = final20 m c := by
  refine (dats m 0 c).arrAt_eq_of_after_last 20 t0_0 (by decide +kernel) _ fun j => ?_
  blk_simp
  rw [after0_20, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same20]
  rfl
theorem final21_eq : (dats m 0 c).arrAt 21 cfg0.N = final21 m c := by
  refine (dats m 0 c).arrAt_eq_of_after_last 21 t0_0 (by decide +kernel) _ fun j => ?_
  blk_simp
  rw [after0_21, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same21]
  rfl
theorem final22_eq : (dats m 0 c).arrAt 22 cfg0.N = final22 m c := by
  refine (dats m 0 c).arrAt_eq_of_after_last 22 t0_0 (by decide +kernel) _ fun j => ?_
  blk_simp
  rw [after0_22, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same22]
  rfl
theorem final23_eq : (dats m 0 c).arrAt 23 cfg0.N = final23 m c := by
  refine (dats m 0 c).arrAt_eq_of_after_last 23 t0_0 (by decide +kernel) _ fun j => ?_
  blk_simp
  rw [after0_23, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same23]
  rfl
theorem final24_eq : (dats m 0 c).arrAt 24 cfg0.N = final24 m c := by
  refine (dats m 0 c).arrAt_eq_of_after_last 24 t0_0 (by decide +kernel) _ fun j => ?_
  blk_simp
  rw [after0_24, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same24]
  rfl
theorem final25_eq : (dats m 0 c).arrAt 25 cfg0.N = final25 m c := by
  refine (dats m 0 c).arrAt_eq_of_after_last 25 t0_0 (by decide +kernel) _ fun j => ?_
  blk_simp
  rw [after0_25, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rw [Cert.PrepReferenceIdeal.Gen.same25]
  rfl

/-! What a run leaves in the results' and the arguments' arrays. -/

variable {m} {r : PUnit × MemSt nD τ sig (Elt Ideal)}

theorem post15 (h : Pipeline.FramePost cfgs (dats m) 0 (V m) r) (c : Dev nD) :
    r.2.mem ((c.tc : Thread nD τ).loc main_v9_0) = final15 m c :=
  ((h c).1 15).trans (final15_eq m c)
theorem post16 (h : Pipeline.FramePost cfgs (dats m) 0 (V m) r) (c : Dev nD) :
    r.2.mem ((c.tc : Thread nD τ).loc main_v9_1) = final16 m c :=
  ((h c).1 16).trans (final16_eq m c)
theorem post17 (h : Pipeline.FramePost cfgs (dats m) 0 (V m) r) (c : Dev nD) :
    r.2.mem ((c.tc : Thread nD τ).loc main_v9_2) = final17 m c :=
  ((h c).1 17).trans (final17_eq m c)
theorem post18 (h : Pipeline.FramePost cfgs (dats m) 0 (V m) r) (c : Dev nD) :
    r.2.mem ((c.tc : Thread nD τ).loc main_v9_3) = final18 m c :=
  ((h c).1 18).trans (final18_eq m c)
theorem post19 (h : Pipeline.FramePost cfgs (dats m) 0 (V m) r) (c : Dev nD) :
    r.2.mem ((c.tc : Thread nD τ).loc main_v9_4) = final19 m c :=
  ((h c).1 19).trans (final19_eq m c)
theorem post20 (h : Pipeline.FramePost cfgs (dats m) 0 (V m) r) (c : Dev nD) :
    r.2.mem ((c.tc : Thread nD τ).loc main_v9_5) = final20 m c :=
  ((h c).1 20).trans (final20_eq m c)
theorem post21 (h : Pipeline.FramePost cfgs (dats m) 0 (V m) r) (c : Dev nD) :
    r.2.mem ((c.tc : Thread nD τ).loc main_v9_6) = final21 m c :=
  ((h c).1 21).trans (final21_eq m c)
theorem post22 (h : Pipeline.FramePost cfgs (dats m) 0 (V m) r) (c : Dev nD) :
    r.2.mem ((c.tc : Thread nD τ).loc main_v9_7) = final22 m c :=
  ((h c).1 22).trans (final22_eq m c)
theorem post23 (h : Pipeline.FramePost cfgs (dats m) 0 (V m) r) (c : Dev nD) :
    r.2.mem ((c.tc : Thread nD τ).loc main_v9_8) = final23 m c :=
  ((h c).1 23).trans (final23_eq m c)
theorem post24 (h : Pipeline.FramePost cfgs (dats m) 0 (V m) r) (c : Dev nD) :
    r.2.mem ((c.tc : Thread nD τ).loc main_v9_9) = final24 m c :=
  ((h c).1 24).trans (final24_eq m c)
theorem post25 (h : Pipeline.FramePost cfgs (dats m) 0 (V m) r) (c : Dev nD) :
    r.2.mem ((c.tc : Thread nD τ).loc main_v9_10) = final25 m c :=
  ((h c).1 25).trans (final25_eq m c)
theorem kept0 (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
theorem kept1 (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
theorem kept2 (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
theorem kept3 (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept4 (h : Pipeline.FramePost cfgs (dats m) 0 (V m) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))
theorem kept5 (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
theorem kept6 (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
theorem kept7 (h : Pipeline.FramePost cfgs (dats m) 0 (V m) r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))
theorem kept8 (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)
theorem kept9 (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)
theorem kept10 (h : Pipeline.FramePost cfgs (dats m) 0 (V m) r) (c : Dev nD) :
    r.2.mem ((c.tc : Thread nD τ).loc main_arg10) = m ((c.tc : Thread nD τ).loc main_arg10) :=
  ((h c).1 10).trans (((dats m 0 c).arrAt_in 10 rfl _).trans ((A_eq m c 10).trans (V_main_arg10 m c)))
theorem kept11 (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)
theorem kept12 (h : Pipeline.FramePost cfgs (dats m) 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)
theorem kept13 (h : Pipeline.FramePost cfgs (dats m) 0 (V m) r) (c : Dev nD) :
    r.2.mem ((c.tc : Thread nD τ).loc main_arg13) = m ((c.tc : Thread nD τ).loc main_arg13) :=
  ((h c).2 main_arg13 (Pipeline.mem_restRefs_of main_arg13 (by decide) (by decide))).trans (V_main_arg13 m c)
theorem kept14 (h : Pipeline.FramePost cfgs (dats m) 0 (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_main_arg14 m c)

/-- Every run ends with the eleven results at these values and the arguments as they were. -/
theorem run_values (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c.tc : Thread nD τ).loc main_v9_0) = final15 m c
      ∧ r.2.mem ((c.tc : Thread nD τ).loc main_v9_1) = final16 m c
      ∧ r.2.mem ((c.tc : Thread nD τ).loc main_v9_2) = final17 m c
      ∧ r.2.mem ((c.tc : Thread nD τ).loc main_v9_3) = final18 m c
      ∧ r.2.mem ((c.tc : Thread nD τ).loc main_v9_4) = final19 m c
      ∧ r.2.mem ((c.tc : Thread nD τ).loc main_v9_5) = final20 m c
      ∧ r.2.mem ((c.tc : Thread nD τ).loc main_v9_6) = final21 m c
      ∧ r.2.mem ((c.tc : Thread nD τ).loc main_v9_7) = final22 m c
      ∧ r.2.mem ((c.tc : Thread nD τ).loc main_v9_8) = final23 m c
      ∧ r.2.mem ((c.tc : Thread nD τ).loc main_v9_9) = final24 m c
      ∧ r.2.mem ((c.tc : Thread nD τ).loc main_v9_10) = final25 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨post15 h c, post16 h c, post17 h c, post18 h c, post19 h c, post20 h c, post21 h c, post22 h c, post23 h c, post24 h c, post25 h c, kept0 h c, kept1 h c, kept2 h c, kept3 h c, kept4 h c, kept5 h c, kept6 h c, kept7 h c, kept8 h c, kept9 h c, kept10 h c, kept11 h c, kept12 h c, kept13 h c, kept14 h c⟩) (run_main m ρ)

end Cert.PrepIdeal.Gen
end
-- ==== Proof.PrepRefResult.lean ====
module

public import Idealize.ShloMosaic.Lib.StableHlo.RunClose
public import Idealize.ShloMosaic.Lib.Pipeline.ValueKit
public import proofs.«01_k».proof.Proof.PrepRow
public import proofs.«01_k».proof.Proof.Gen.PrepReferenceIdeal.Value

@[expose] public section

set_option maxRecDepth 65536

noncomputable section

namespace Cert.PrepReferenceIdeal.Gen

open Idealize.ShloMosaic Idealize.ShloMosaic.TcCoe Idealize.ShloMosaic.Tactic
open Idealize.SL Idealize.SL.Sem
open Idealize.ShloMosaic.Pointwise

/-! # The results of the reference after the run -/

variable (m : (ℓ : Loc nD τ sig) → Buf (Elt Ideal) ℓ) (c : Dev nD)

/-- Every operand's block at the one point is the first. -/
theorem index_zero : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

theorem block0 : iblk m c 0 t0_0 = V m c main_arg0 := by
  blk_ext! [iblk, index_zero t0_0]
theorem block1 : iblk m c 1 t0_0 = V m c main_arg1 := by
  blk_ext! [iblk, index_zero t0_0]
theorem block2 : iblk m c 2 t0_0 = V m c main_arg2 := by
  blk_ext! [iblk, index_zero t0_0]
theorem block3 : iblk m c 3 t0_0 = V m c main_v0 := by
  blk_ext! [iblk, index_zero t0_0]
theorem block4 : iblk m c 4 t0_0 = V m c main_arg4 := by
  blk_ext! [iblk, index_zero t0_0]
theorem block5 : iblk m c 5 t0_0 = V m c main_v1 := by
  blk_ext! [iblk, index_zero t0_0]
theorem block6 : iblk m c 6 t0_0 = V m c main_v2 := by
  blk_ext! [iblk, index_zero t0_0]
theorem block7 : iblk m c 7 t0_0 = V m c main_arg7 := by
  blk_ext! [iblk, index_zero t0_0]
theorem block8 : iblk m c 8 t0_0 = V m c main_v3 := by
  blk_ext! [iblk, index_zero t0_0]
theorem block9 : iblk m c 9 t0_0 = V m c main_v4 := by
  blk_ext! [iblk, index_zero t0_0]
theorem block10 : iblk m c 10 t0_0 = V m c main_arg10 := by
  blk_ext! [iblk, index_zero t0_0]
theorem block11 : iblk m c 11 t0_0 = V m c main_v5 := by
  blk_ext! [iblk, index_zero t0_0]
theorem block12 : iblk m c 12 t0_0 = V m c main_v6 := by
  blk_ext! [iblk, index_zero t0_0]
theorem block13 : iblk m c 13 t0_0 = V m c main_v7 := by
  blk_ext! [iblk, index_zero t0_0]
theorem block14 : iblk m c 14 t0_0 = V m c main_v8 := by
  blk_ext! [iblk, index_zero t0_0]

/-! The rows the host lays out. -/

theorem r128_eq (v : FVec Ideal S128 .f32) : broadcastInDim S1x128 ![1] bcast_S128_S1x128_1 v = Row.r128 v := by
  funext y
  obtain ⟨i, j, rfl⟩ : ∃ (i : Fin 1) (j : Fin 128), y = ix2 i j := ⟨y 0, y 1, eq_ix2 y⟩
  obtain rfl : i = 0 := Subsingleton.elim _ _
  pointwise [Row.r128]
theorem r256_eq (v : FVec Ideal S256 .f32) : broadcastInDim S1x256 ![1] bcast_S256_S1x256_1 v = Row.r256 v := by
  funext y
  obtain ⟨i, j, rfl⟩ : ∃ (i : Fin 1) (j : Fin 256), y = ix2 i j := ⟨y 0, y 1, eq_ix2 y⟩
  obtain rfl : i = 0 := Subsingleton.elim _ _
  pointwise [Row.r256]
theorem V_main_v0 : V m c main_v0 = Row.r128 (m ((c.tc : Thread nD τ).loc main_arg3)) := by
  refine Eq.trans (b := broadcastInDim S1x128 ![1] bcast_S128_S1x128_1 (m ((c.tc : Thread nD τ).loc main_arg3))) ?_ (r128_eq _)
  show StableHlo.after _ _ _ = _
  after_results_entrywise (rounds := 1) []
theorem V_main_v1 : V m c main_v1 = Row.r128 (m ((c.tc : Thread nD τ).loc main_arg5)) := by
  refine Eq.trans (b := broadcastInDim S1x128 ![1] bcast_S128_S1x128_1 (m ((c.tc : Thread nD τ).loc main_arg5))) ?_ (r128_eq _)
  show StableHlo.after _ _ _ = _
  after_results_entrywise (rounds := 1) []
theorem V_main_v2 : V m c main_v2 = Row.r128 (m ((c.tc : Thread nD τ).loc main_arg6)) := by
  refine Eq.trans (b := broadcastInDim S1x128 ![1] bcast_S128_S1x128_1 (m ((c.tc : Thread nD τ).loc main_arg6))) ?_ (r128_eq _)
  show StableHlo.after _ _ _ = _
  after_results_entrywise (rounds := 1) []
theorem V_main_v3 : V m c main_v3 = Row.r128 (m ((c.tc : Thread nD τ).loc main_arg8)) := by
  refine Eq.trans (b := broadcastInDim S1x128 ![1] bcast_S128_S1x128_1 (m ((c.tc : Thread nD τ).loc main_arg8))) ?_ (r128_eq _)
  show StableHlo.after _ _ _ = _
  after_results_entrywise (rounds := 1) []
theorem V_main_v4 : V m c main_v4 = Row.r128 (m ((c.tc : Thread nD τ).loc main_arg9)) := by
  refine Eq.trans (b := broadcastInDim S1x128 ![1] bcast_S128_S1x128_1 (m ((c.tc : Thread nD τ).loc main_arg9))) ?_ (r128_eq _)
  show StableHlo.after _ _ _ = _
  after_results_entrywise (rounds := 1) []
theorem V_main_v5 : V m c main_v5 = Row.r256 (m ((c.tc : Thread nD τ).loc main_arg11)) := by
  refine Eq.trans (b := broadcastInDim S1x256 ![1] bcast_S256_S1x256_1 (m ((c.tc : Thread nD τ).loc main_arg11))) ?_ (r256_eq _)
  show StableHlo.after _ _ _ = _
  after_results_entrywise (rounds := 1) []
theorem V_main_v6 : V m c main_v6 = Row.r256 (m ((c.tc : Thread nD τ).loc main_arg12)) := by
  refine Eq.trans (b := broadcastInDim S1x256 ![1] bcast_S256_S1x256_1 (m ((c.tc : Thread nD τ).loc main_arg12))) ?_ (r256_eq _)
  show StableHlo.after _ _ _ = _
  after_results_entrywise (rounds := 1) []
theorem V_main_v7 : V m c main_v7 = Row.r256 (m ((c.tc : Thread nD τ).loc main_arg13)) := by
  refine Eq.trans (b := broadcastInDim S1x256 ![1] bcast_S256_S1x256_1 (m ((c.tc : Thread nD τ).loc main_arg13))) ?_ (r256_eq _)
  show StableHlo.after _ _ _ = _
  after_results_entrywise (rounds := 1) []
theorem V_main_v8 : V m c main_v8 = Row.r256 (m ((c.tc : Thread nD τ).loc main_arg14)) := by
  refine Eq.trans (b := broadcastInDim S1x256 ![1] bcast_S256_S1x256_1 (m ((c.tc : Thread nD τ).loc main_arg14))) ?_ (r256_eq _)
  show StableHlo.after _ _ _ = _
  after_results_entrywise (rounds := 1) []

/-! The arrays the run leaves, from the launched arguments. -/

def final15 := Cert.PrepReferenceIdeal.Gen.out0_15 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final16 := Cert.PrepReferenceIdeal.Gen.out0_16 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final17 := Cert.PrepReferenceIdeal.Gen.out0_17 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final18 := Cert.PrepReferenceIdeal.Gen.out0_18 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final19 := Cert.PrepReferenceIdeal.Gen.out0_19 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final20 := Cert.PrepReferenceIdeal.Gen.out0_20 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final21 := Cert.PrepReferenceIdeal.Gen.out0_21 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final22 := Cert.PrepReferenceIdeal.Gen.out0_22 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final23 := Cert.PrepReferenceIdeal.Gen.out0_23 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final24 := Cert.PrepReferenceIdeal.Gen.out0_24 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))
def final25 := Cert.PrepReferenceIdeal.Gen.out0_25 (F := Ideal) (m ((c.tc : Thread nD τ).loc main_arg0)) (m ((c.tc : Thread nD τ).loc main_arg1)) (m ((c.tc : Thread nD τ).loc main_arg2)) (Row.r128 (m ((c.tc : Thread nD τ).loc main_arg3))) (m ((c.tc : Thread nD τ).loc main_arg4)) (Row.r128 (m ((c.tc : Thread nD τ).loc main_arg5))) (Row.r128 (m ((c.tc : Thread nD τ).loc main_arg6))) (m ((c.tc : Thread nD τ).loc main_arg7)) (Row.r128 (m ((c.tc : Thread nD τ).loc main_arg8))) (Row.r128 (m ((c.tc : Thread nD τ).loc main_arg9))) (m ((c.tc : Thread nD τ).loc main_arg10)) (Row.r256 (m ((c.tc : Thread nD τ).loc main_arg11))) (Row.r256 (m ((c.tc : Thread nD τ).loc main_arg12))) (Row.r256 (m ((c.tc : Thread nD τ).loc main_arg13))) (Row.r256 (m ((c.tc : Thread nD τ).loc main_arg14)))

theorem final15_eq : (dats m 0 c).arrAt 15 cfg0.N = final15 m c := by
  refine (dats m 0 c).arrAt_eq_of_after_last 15 t0_0 (by decide +kernel) _ fun j => ?_
  blk_simp
  rw [after0_15, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl
theorem final16_eq : (dats m 0 c).arrAt 16 cfg0.N = final16 m c := by
  refine (dats m 0 c).arrAt_eq_of_after_last 16 t0_0 (by decide +kernel) _ fun j => ?_
  blk_simp
  rw [after0_16, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl
theorem final17_eq : (dats m 0 c).arrAt 17 cfg0.N = final17 m c := by
  refine (dats m 0 c).arrAt_eq_of_after_last 17 t0_0 (by decide +kernel) _ fun j => ?_
  blk_simp
  rw [after0_17, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl
theorem final18_eq : (dats m 0 c).arrAt 18 cfg0.N = final18 m c := by
  refine (dats m 0 c).arrAt_eq_of_after_last 18 t0_0 (by decide +kernel) _ fun j => ?_
  blk_simp
  rw [after0_18, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl
theorem final19_eq : (dats m 0 c).arrAt 19 cfg0.N = final19 m c := by
  refine (dats m 0 c).arrAt_eq_of_after_last 19 t0_0 (by decide +kernel) _ fun j => ?_
  blk_simp
  rw [after0_19, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl
theorem final20_eq : (dats m 0 c).arrAt 20 cfg0.N = final20 m c := by
  refine (dats m 0 c).arrAt_eq_of_after_last 20 t0_0 (by decide +kernel) _ fun j => ?_
  blk_simp
  rw [after0_20, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl
theorem final21_eq : (dats m 0 c).arrAt 21 cfg0.N = final21 m c := by
  refine (dats m 0 c).arrAt_eq_of_after_last 21 t0_0 (by decide +kernel) _ fun j => ?_
  blk_simp
  rw [after0_21, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl
theorem final22_eq : (dats m 0 c).arrAt 22 cfg0.N = final22 m c := by
  refine (dats m 0 c).arrAt_eq_of_after_last 22 t0_0 (by decide +kernel) _ fun j => ?_
  blk_simp
  rw [after0_22, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl
theorem final23_eq : (dats m 0 c).arrAt 23 cfg0.N = final23 m c := by
  refine (dats m 0 c).arrAt_eq_of_after_last 23 t0_0 (by decide +kernel) _ fun j => ?_
  blk_simp
  rw [after0_23, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl
theorem final24_eq : (dats m 0 c).arrAt 24 cfg0.N = final24 m c := by
  refine (dats m 0 c).arrAt_eq_of_after_last 24 t0_0 (by decide +kernel) _ fun j => ?_
  blk_simp
  rw [after0_24, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl
theorem final25_eq : (dats m 0 c).arrAt 25 cfg0.N = final25 m c := by
  refine (dats m 0 c).arrAt_eq_of_after_last 25 t0_0 (by decide +kernel) _ fun j => ?_
  blk_simp
  rw [after0_25, block0, block1, block2, block3, block4, block5, block6, block7, block8, block9, block10, block11, block12, block13, block14, V_main_arg0, V_main_arg1, V_main_arg2, V_main_v0, V_main_arg4, V_main_v1, V_main_v2, V_main_arg7, V_main_v3, V_main_v4, V_main_arg10, V_main_v5, V_main_v6, V_main_v7, V_main_v8]
  rfl

end Cert.PrepReferenceIdeal.Gen
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepReferenceIdeal
public import proofs.«01_k».proof.Proof.Gen.PrepReferenceIdeal.Skeleton
public import proofs.«01_k».proof.Proof.Gen.PrepReferenceIdeal.Launch
public import proofs.«01_k».proof.Proof.Gen.PrepReferenceIdeal.Points
public import proofs.«01_k».proof.Proof.Gen.PrepReferenceIdeal.Frame
public import proofs.«01_k».proof.Proof.Gen.PrepReferenceIdeal.Value
public import proofs.«01_k».proof.Proof.Result
public import proofs.«01_k».proof.Proof.RefResult
public import proofs.«01_k».proof.Proof.PrepResult
public import proofs.«01_k».proof.Proof.PrepRefResult
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two programs write the same three arrays: the image, the codes and the scales of the launched
arguments. -/
theorem algebraic : Cert.algebraic_KernelIdeal_ReferenceIdeal := by
  intro m g m' g' _ hargs
  refine ⟨fun c => Cert.KernelIdeal.Gen.imageRes m c, fun c => Cert.KernelIdeal.Gen.codesRes m c,
    fun c => Cert.KernelIdeal.Gen.scaleRes m c, ?_, ?_⟩
  · refine (θ_run _ _ _).mono (fun r h c => ?_) (Cert.KernelIdeal.Gen.run_values m g)
    exact ⟨(h.1 c).1, (h.1 c).2.1, (h.1 c).2.2, h.2 c⟩
  · refine (θ_run _ _ _).mono (fun r h c => ?_) (Cert.ReferenceIdeal.Value.run_blocks m' g')
    obtain ⟨h0, h1, h2, h3⟩ := h c
    obtain ⟨a0, a1, a2, a3, a4, a5, a6, a7⟩ := hargs c
    refine ⟨h0.trans ((Cert.ReferenceIdeal.Gen.image_eq m' c).trans ?_), h1.trans ((Cert.ReferenceIdeal.Gen.codes_eq m' c).trans ?_),
      h2.trans ((Cert.ReferenceIdeal.Gen.scale_eq m' c).trans ?_), h3⟩
    · rw [a0, a1, a2, a3, a4, a5, a6, a7]
      rfl
    · rw [a0, a1, a2, a3]
      rfl
    · rw [a0, a1, a2, a3]
      rfl

set_option maxHeartbeats 4000000 in
/-- The preparing kernel and its reference write the same eleven arrays. -/
theorem algebraic_prep : Cert.algebraic_PrepIdeal_PrepReferenceIdeal := by
  intro m g m' g' _ hargs
  refine ⟨fun c => Cert.PrepIdeal.Gen.final15 m c, fun c => Cert.PrepIdeal.Gen.final16 m c, fun c => Cert.PrepIdeal.Gen.final17 m c, fun c => Cert.PrepIdeal.Gen.final18 m c, fun c => Cert.PrepIdeal.Gen.final19 m c, fun c => Cert.PrepIdeal.Gen.final20 m c, fun c => Cert.PrepIdeal.Gen.final21 m c, fun c => Cert.PrepIdeal.Gen.final22 m c, fun c => Cert.PrepIdeal.Gen.final23 m c, fun c => Cert.PrepIdeal.Gen.final24 m c, fun c => Cert.PrepIdeal.Gen.final25 m c, Cert.PrepIdeal.Gen.run_values m g, ?_⟩
  refine (θ_run _ _ _).mono (fun r h c => ?_) (Cert.PrepReferenceIdeal.Value.run_blocks m' g')
  obtain ⟨h15, h16, h17, h18, h19, h20, h21, h22, h23, h24, h25, kept⟩ := h c
  obtain ⟨a0, a1, a2, a3, a4, a5, a6, a7, a8, a9, a10, a11, a12, a13, a14⟩ := hargs c
  refine ⟨h15.trans ((Cert.PrepReferenceIdeal.Gen.final15_eq m' c).trans ?_), h16.trans ((Cert.PrepReferenceIdeal.Gen.final16_eq m' c).trans ?_), h17.trans ((Cert.PrepReferenceIdeal.Gen.final17_eq m' c).trans ?_), h18.trans ((Cert.PrepReferenceIdeal.Gen.final18_eq m' c).trans ?_), h19.trans ((Cert.PrepReferenceIdeal.Gen.final19_eq m' c).trans ?_), h20.trans ((Cert.PrepReferenceIdeal.Gen.final20_eq m' c).trans ?_), h21.trans ((Cert.PrepReferenceIdeal.Gen.final21_eq m' c).trans ?_), h22.trans ((Cert.PrepReferenceIdeal.Gen.final22_eq m' c).trans ?_), h23.trans ((Cert.PrepReferenceIdeal.Gen.final23_eq m' c).trans ?_), h24.trans ((Cert.PrepReferenceIdeal.Gen.final24_eq m' c).trans ?_), h25.trans ((Cert.PrepReferenceIdeal.Gen.final25_eq m' c).trans ?_), kept⟩
  · unfold Cert.PrepReferenceIdeal.Gen.final15
    rw [a0, a1, a2, a3, a4, a5, a6, a7, a8, a9, a10, a11, a12, a13, a14]
    rfl
  · unfold Cert.PrepReferenceIdeal.Gen.final16
    rw [a0, a1, a2, a3, a4, a5, a6, a7, a8, a9, a10, a11, a12, a13, a14]
    rfl
  · unfold Cert.PrepReferenceIdeal.Gen.final17
    rw [a0, a1, a2, a3, a4, a5, a6, a7, a8, a9, a10, a11, a12, a13, a14]
    rfl
  · unfold Cert.PrepReferenceIdeal.Gen.final18
    rw [a0, a1, a2, a3, a4, a5, a6, a7, a8, a9, a10, a11, a12, a13, a14]
    rfl
  · unfold Cert.PrepReferenceIdeal.Gen.final19
    rw [a0, a1, a2, a3, a4, a5, a6, a7, a8, a9, a10, a11, a12, a13, a14]
    rfl
  · unfold Cert.PrepReferenceIdeal.Gen.final20
    rw [a0, a1, a2, a3, a4, a5, a6, a7, a8, a9, a10, a11, a12, a13, a14]
    rfl
  · unfold Cert.PrepReferenceIdeal.Gen.final21
    rw [a0, a1, a2, a3, a4, a5, a6, a7, a8, a9, a10, a11, a12, a13, a14]
    rfl
  · unfold Cert.PrepReferenceIdeal.Gen.final22
    rw [a0, a1, a2, a3, a4, a5, a6, a7, a8, a9, a10, a11, a12, a13, a14]
    rfl
  · unfold Cert.PrepReferenceIdeal.Gen.final23
    rw [a0, a1, a2, a3, a4, a5, a6, a7, a8, a9, a10, a11, a12, a13, a14]
    rfl
  · unfold Cert.PrepReferenceIdeal.Gen.final24
    rw [a0, a1, a2, a3, a4, a5, a6, a7, a8, a9, a10, a11, a12, a13, a14]
    rfl
  · unfold Cert.PrepReferenceIdeal.Gen.final25
    rw [a0, a1, a2, a3, a4, a5, a6, a7, a8, a9, a10, a11, a12, a13, a14]
    rfl

/-- Every claim of the certificate. -/
theorem claim : Cert.Claim := ⟨Cert.Kernel.Gen.facts, Cert.KernelIdeal.Gen.facts, Cert.ReferenceIdeal.Gen.facts,
  Cert.Prep.Gen.facts, Cert.PrepIdeal.Gen.facts, Cert.PrepReferenceIdeal.Gen.facts,
  fun m ρ _ => Cert.Kernel.Gen.frame m ρ (by unfold Cert.Kernel.Gen.Ok; trivial),
  fun m ρ _ => Cert.KernelIdeal.Gen.frame m ρ (Cert.KernelIdeal.Gen.ok m),
  fun m ρ _ => Cert.ReferenceIdeal.Gen.frame m ρ,
  fun m ρ _ => Cert.Prep.Gen.frame m ρ,
  fun m ρ _ => Cert.PrepIdeal.Gen.frame m ρ,
  fun m ρ _ => Cert.PrepReferenceIdeal.Gen.frame m ρ,
  ⟨IdealRules.named_const.statement Cert.KernelIdeal.κ "mask" .f32 0xF149F2CA#32 ⊥ rfl, IdealRules.bf16_pack.statement _⟩,
  algebraic, IdealRules.bf16_pack.statement _, algebraic_prep⟩

end Cert.Proof

end
